-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 256, 512]⟩ ⟨3, ![16, 256, 512]⟩ 0 4 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 512]⟩ ⟨2, ![512, 512]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v23) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S256x16 : Shape := ⟨2, ![256, 16]⟩
abbrev S512x1 : Shape := ⟨2, ![512, 1]⟩
abbrev S4x256x512 : Shape := ⟨3, ![4, 256, 512]⟩
abbrev S128x512 : Shape := ⟨2, ![128, 512]⟩
abbrev S3x128x512 : Shape := ⟨3, ![3, 128, 512]⟩
abbrev S3 : Shape := ⟨1, ![3]⟩
abbrev S_ : Shape := ⟨0, ![]⟩
abbrev S512x512 : Shape := ⟨2, ![512, 512]⟩
abbrev S512 : Shape := ⟨1, ![512]⟩
abbrev S1x512 : Shape := ⟨2, ![1, 512]⟩
abbrev S128x256 : Shape := ⟨2, ![128, 256]⟩
abbrev S128x1 : Shape := ⟨2, ![128, 1]⟩
abbrev S1x256x512 : Shape := ⟨3, ![1, 256, 512]⟩
abbrev S256x512 : Shape := ⟨2, ![256, 512]⟩
abbrev S1x128x512 : Shape := ⟨3, ![1, 128, 512]⟩
abbrev S1 : Shape := ⟨1, ![1]⟩

abbrev nBuf : Space → Nat
  | .hbm => 5
  | .vmem => 8
  | .smem => 0
  | _ => 0

abbrev bufTy : (tb : Table) → Fin (tcTables nBuf tb) → BufTy
  | .hbm, ⟨0, _⟩ => ⟨S512x256, .f32⟩
  | .hbm, ⟨1, _⟩ => ⟨S256x16, .f32⟩
  | .hbm, ⟨2, _⟩ => ⟨S512x1, .i32⟩
  | .hbm, ⟨3, _⟩ => ⟨S4x256x512, .f32⟩
  | .hbm, ⟨4, _⟩ => ⟨S128x512, .f32⟩
  | .local _ .vmem, ⟨0, _⟩ => ⟨S512x256, .f32⟩
  | .local _ .vmem, ⟨1, _⟩ => ⟨S512x1, .i32⟩
  | .local _ .vmem, ⟨2, _⟩ => ⟨S4x256x512, .f32⟩
  | .local _ .vmem, ⟨3, _⟩ => ⟨S128x512, .f32⟩
  | .local _ .vmem, ⟨4, _⟩ => ⟨S512x1, .f32⟩
  | .local _ .vmem, ⟨5, _⟩ => ⟨S4x256x512, .bf16⟩
  | .local _ .vmem, ⟨6, _⟩ => ⟨S3x128x512, .bf16⟩
  | .local _ .vmem, ⟨7, _⟩ => ⟨S3x128x512, .bf16⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  (ofTc nBuf bufTy 1 10 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v12 : BitVec 32 := Scalar.addi v2 c3_i32
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k0_off1 (d0 : Dev nD) (c1_i32_25 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v45 : BitVec 32 := Scalar.addi v2 c1_i32_25
  let c4_i32_26 : BitVec 32 := 4#32
  let v46 : BitVec 32 := Scalar.remsi v45 c4_i32_26
  let c128_i32 : BitVec 32 := 128#32
  let v47 : BitVec 32 := Scalar.muli v46 c128_i32
  let v48 : Index := Scalar.indexCast v47
  let c0_27 : Index := 0#32
  ![v48.toNat, 0]
def k0_off2 (d0 : Dev nD) (c1_i32_25 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v45 : BitVec 32 := Scalar.addi v2 c1_i32_25
  let c4_i32_26 : BitVec 32 := 4#32
  let v46 : BitVec 32 := Scalar.remsi v45 c4_i32_26
  let c128_i32 : BitVec 32 := 128#32
  let v47 : BitVec 32 := Scalar.muli v46 c128_i32
  let v51 : Index := Scalar.indexCast v47
  let c0_28 : Index := 0#32
  ![v51.toNat, 0]
def k0_dev4 (d0 : Dev nD) : Nat :=
  let c0_i32_60 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_25 : BitVec 32 := 1#32
  let v45 : BitVec 32 := Scalar.addi v2 c1_i32_25
  let c4_i32_26 : BitVec 32 := 4#32
  let v46 : BitVec 32 := Scalar.remsi v45 c4_i32_26
  let c1_i32_59 : BitVec 32 := 1#32
  let v117 : BitVec 32 := Scalar.muli v46 c1_i32_59
  let v118 : BitVec 32 := Scalar.addi c0_i32_60 v117
  v118.toNat
def k0_dev5 (d0 : Dev nD) : Nat :=
  let c0_i32_104 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_65 : BitVec 32 := 2#32
  let v127 : BitVec 32 := Scalar.addi v2 c2_i32_65
  let c4_i32_66 : BitVec 32 := 4#32
  let v128 : BitVec 32 := Scalar.remsi v127 c4_i32_66
  let c1_i32_103 : BitVec 32 := 1#32
  let v199 : BitVec 32 := Scalar.muli v128 c1_i32_103
  let v200 : BitVec 32 := Scalar.addi c0_i32_104 v199
  v200.toNat
def k0_dev6 (d0 : Dev nD) : Nat :=
  let c0_i32_148 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_109 : BitVec 32 := 3#32
  let v209 : BitVec 32 := Scalar.addi v2 c3_i32_109
  let c4_i32_110 : BitVec 32 := 4#32
  let v210 : BitVec 32 := Scalar.remsi v209 c4_i32_110
  let c1_i32_147 : BitVec 32 := 1#32
  let v281 : BitVec 32 := Scalar.muli v210 c1_i32_147
  let v282 : BitVec 32 := Scalar.addi c0_i32_148 v281
  v282.toNat
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_153 : BitVec 32 := 128#32
  let v291 : BitVec 32 := Scalar.muli v2 c128_i32_153
  let v292 : Index := Scalar.indexCast v291
  let c0_154 : Index := 0#32
  ![v292.toNat, 0]
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_153 : BitVec 32 := 128#32
  let v291 : BitVec 32 := Scalar.muli v2 c128_i32_153
  let v295 : Index := Scalar.indexCast v291
  let c0_155 : Index := 0#32
  ![v295.toNat, 0]
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S512x256 : Shape := ⟨2, ![512, 256]⟩
abbrev S256x16 : Shape := ⟨2, ![256, 16]⟩
abbrev S512x1 : Shape := ⟨2, ![512, 1]⟩
abbrev S16x256x512 : Shape := ⟨3, ![16, 256, 512]⟩
abbrev S512 : Shape := ⟨1, ![512]⟩
abbrev S16 : Shape := ⟨1, ![16]⟩
abbrev S1x16 : Shape := ⟨2, ![1, 16]⟩
abbrev S512x16 : Shape := ⟨2, ![512, 16]⟩
abbrev S_ : Shape := ⟨0, ![]⟩
abbrev S512x256x512 : Shape := ⟨3, ![512, 256, 512]⟩
abbrev S512x512 : Shape := ⟨2, ![512, 512]⟩

abbrev nBuf : Space → Nat
  | .hbm => 39
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S256x16, .f32⟩
  | .hbm, ⟨2, _⟩ => ⟨S512x1, .i32⟩
  | .hbm, ⟨3, _⟩ => ⟨S16x256x512, .f32⟩
  | .hbm, ⟨4, _⟩ => ⟨S512, .i32⟩
  | .hbm, ⟨5, _⟩ => ⟨S512x1, .i32⟩
  | .hbm, ⟨6, _⟩ => ⟨S16, .i32⟩
  | .hbm, ⟨7, _⟩ => ⟨S1x16, .i32⟩
  | .hbm, ⟨8, _⟩ => ⟨S512x16, .i32⟩
  | .hbm, ⟨9, _⟩ => ⟨S512x16, .i32⟩
  | .hbm, ⟨10, _⟩ => ⟨S512x16, .i1⟩
  | .hbm, ⟨11, _⟩ => ⟨S512x16, .i32⟩
  | .hbm, ⟨12, _⟩ => ⟨S_, .i32⟩
  | .hbm, ⟨13, _⟩ => ⟨S_, .i32⟩
  | .hbm, ⟨14, _⟩ => ⟨S512x16, .i32⟩
  | .hbm, ⟨15, _⟩ => ⟨S512x16, .i32⟩
  | .hbm, ⟨16, _⟩ => ⟨S512x16, .i32⟩
  | .hbm, ⟨17, _⟩ => ⟨S_, .i32⟩
  | .hbm, ⟨18, _⟩ => ⟨S512, .i32⟩
  | .hbm, ⟨19, _⟩ => ⟨S_, .i32⟩
  | .hbm, ⟨20, _⟩ => ⟨S512, .i32⟩
  | .hbm, ⟨21, _⟩ => ⟨S512, .i1⟩
  | .hbm, ⟨22, _⟩ => ⟨S_, .i32⟩
  | .hbm, ⟨23, _⟩ => ⟨S512, .i32⟩
  | .hbm, ⟨24, _⟩ => ⟨S512, .i1⟩
  | .hbm, ⟨25, _⟩ => ⟨S512, .i1⟩
  | .hbm, ⟨26, _⟩ => ⟨S_, .i32⟩
  | .hbm, ⟨27, _⟩ => ⟨S512, .i32⟩
  | .hbm, ⟨28, _⟩ => ⟨S512, .i1⟩
  | .hbm, ⟨29, _⟩ => ⟨S512, .i1⟩
  | .hbm, ⟨30, _⟩ => ⟨S512x1, .i32⟩
  | .hbm, ⟨31, _⟩ => ⟨S512x256x512, .f32⟩
  | .hbm, ⟨32, _⟩ => ⟨S512x512, .f32⟩
  | .hbm, ⟨33, _⟩ => ⟨S512x1, .i1⟩
  | .hbm, ⟨34, _⟩ => ⟨S_, .f32⟩
  | .hbm, ⟨35, _⟩ => ⟨S_, .f32⟩
  | .hbm, ⟨36, _⟩ => ⟨S512x512, .i1⟩
  | .hbm, ⟨37, _⟩ => ⟨S512x512, .f32⟩
  | .hbm, ⟨38, _⟩ => ⟨S512x512, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_call0_c : Ref sig .tc := ⟨.hbm, 12, rfl⟩
abbrev main_call0_call0_v0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c : Ref sig .tc := ⟨.hbm, 17, rfl⟩
abbrev main_v11 : Ref sig .tc := ⟨.hbm, 18, rfl⟩
abbrev main_c_0 : Ref sig .tc := ⟨.hbm, 19, rfl⟩
abbrev main_v12 : Ref sig .tc := ⟨.hbm, 20, rfl⟩
abbrev main_v13 : Ref sig .tc := ⟨.hbm, 21, rfl⟩
abbrev main_c_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_call1_v0 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst : Ref sig .tc := ⟨.hbm, 34, rfl⟩
abbrev main_call2_v0 : Ref sig .tc := ⟨.hbm, 35, rfl⟩
abbrev main_call2_v1 : Ref sig .tc := ⟨.hbm, 36, rfl⟩
abbrev main_call2_v2 : Ref sig .tc := ⟨.hbm, 37, rfl⟩
abbrev main_v23 : Ref sig .tc := ⟨.hbm, 38, rfl⟩

abbrev nD : Nat := 1
abbrev τ : Topo := Topo.v7x

variable {F : FTy → Type} [FloatOps F]
-- ==== Proof.Protocol.lean ====
/-
The exchange's protocol: four devices, device `c` computing for each other device a chunk of 128 rows and sending it.

Semaphores. Per device: its barrier semaphore, three send semaphores and three receive semaphores, one per distance
(slot `k` is the distance `k + 1`; `hop k c` is the device that far after `c`).
* Barrier of `b`: the three other devices each signal it once (slot `k` by the device whose `hop k` is `b`), and `b`
  waits once for 3. The signal of slot `k` hands `b` the signaller's landing row `k.rev`, the one `b` writes: `b` is
  that far before the signaller.
* Send `k` of `c`: raised by `c`'s own copy `k`, by the row's size, when the row has been read; `c` waits for it last. It
  hands `c` back its own row `k` with what it stored there.
* Receive `k` of `c`: raised by the copy of the device `hop k.rev c`, by the row's size; `c` waits for it after its own
  chunk. It hands `c` its landing row `k`, holding the chunk that device computed for `c`.
Order in each device: three signals, the barrier wait, the three copies, the three receive waits, the three send waits.
At the barrier wait a device owes receive credits only (level 2 over the barrier's 1); at the other waits it owes nothing.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.MemrefSat
public import Idealize.ShloMosaic.Lib.Ring
public import Idealize.ShloMosaic.Lib.Tactic

@[expose] public section

noncomputable section

namespace Cert.Dispatch

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Resources -/

/-- The exchange's own ghost resources: cells of the machine, duties named by slots. -/
abbrev UB : Type := URounds (GSem nD τ sig) (Fin 3)
/-- The pipeline's resources beside the exchange's. -/
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The state at launch: any memory, every counter zero, any generator registers. -/
def s₀ : MemSt nD τ sig (Elt F) := ⟨m, fun _ => 0, ρ⟩

/-! ## Devices -/

set_option backward.proofsInPublic true in
/-- The device `k + 1` places after `c`, around the four. -/
def hop (k : Fin 3) (c : Dev nD) : Dev nD := ⟨(c.val + (k.val + 1)) % 4, Nat.mod_lt _ (by decide)⟩

/-- Going on by a distance and then by the reversed slot's comes back, -/
theorem hop_rev_hop (k : Fin 3) (c : Dev nD) : hop k.rev (hop k c) = c := by revert k c; decide
/-- in either order. -/
theorem hop_hop_rev (k : Fin 3) (c : Dev nD) : hop k (hop k.rev c) = c := by revert k c; decide

/-- Going `k + 1` places on is a rearrangement of the devices. -/
def turn (k : Fin 3) : Dev nD ≃ Dev nD := ⟨hop k, hop k.rev, hop_rev_hop k, hop_hop_rev k⟩

/-- `c` is `k` hops after `d` exactly when `d` is the reversed slot's hop after `c`. -/
theorem hop_eq_iff (k : Fin 3) (c d : Dev nD) : c = hop k d ↔ d = hop k.rev c := by revert k c d; decide

/-- The three signals and the three copies name the devices of slots 0, 1 and 2. -/
theorem dev1_eq (c : Dev nD) : (⟨k0_dev1 c, k0_dev1_lt c⟩ : Dev nD) = hop 0 c := Fin.ext (k0_dev1_eq c)
theorem dev2_eq (c : Dev nD) : (⟨k0_dev2 c, k0_dev2_lt c⟩ : Dev nD) = hop 1 c := Fin.ext (k0_dev2_eq c)
theorem dev3_eq (c : Dev nD) : (⟨k0_dev3 c, k0_dev3_lt c⟩ : Dev nD) = hop 2 c := Fin.ext (k0_dev3_eq c)
theorem dev4_eq (c : Dev nD) : (⟨k0_dev4 c, k0_dev4_lt c⟩ : Dev nD) = hop 0 c := Fin.ext (k0_dev4_eq c)
theorem dev5_eq (c : Dev nD) : (⟨k0_dev5 c, k0_dev5_lt c⟩ : Dev nD) = hop 1 c := Fin.ext (k0_dev5_eq c)
theorem dev6_eq (c : Dev nD) : (⟨k0_dev6 c, k0_dev6_lt c⟩ : Dev nD) = hop 2 c := Fin.ext (k0_dev6_eq c)

/-! ## Buffers, rows and cells -/

abbrev xM : Memref sig .tc .vmem S512x256 .f32 := Memref.whole cc0_stg0_0
abbrev iM : Memref sig .tc .vmem S512x1 .i32 := Memref.whole cc0_stg1_0
abbrev wM : Memref sig .tc .vmem S4x256x512 .f32 := Memref.whole cc0_stg2_0
abbrev oM : Memref sig .tc .vmem S128x512 .f32 := Memref.whole cc0_stg3_0
abbrev kM : Memref sig .tc .vmem S512x1 .f32 := Memref.whole cc0_scratch0
abbrev bM : Memref sig .tc .vmem S4x256x512 .bf16 := Memref.whole cc0_scratch1
abbrev sM : Memref sig .tc .vmem S3x128x512 .bf16 := Memref.whole cc0_scratch2
abbrev rM : Memref sig .tc .vmem S3x128x512 .bf16 := Memref.whole cc0_scratch3

/-- Row `k` lies in the three rows. -/
theorem row_inb (k : Fin 3) : ∀ a, (![k.val, 0, 0] : Fin 3 → Nat) a + S1x128x512.size a ≤ S3x128x512.size a := by
  revert k; decide
/-- Row `k` of a three-row buffer. -/
abbrev row (k : Fin 3) : Rect S3x128x512 := Rect.unit (s := S3x128x512) ![k.val, 0, 0] S1x128x512.size (row_inb k)
/-- The send buffer's row `k`, and the landing buffer's. -/
abbrev sRow (k : Fin 3) : Memref sig .tc .vmem S1x128x512 .bf16 := sM.slice (row k) (fun _ => rfl)
abbrev rRow (k : Fin 3) : Memref sig .tc .vmem S1x128x512 .bf16 := rM.slice (row k) (fun _ => rfl)
/-- The same rows as two-dimensional arrays, as the copies name them. -/
abbrev sRow2 (k : Fin 3) : Memref sig .tc .vmem S128x512 .bf16 := (sRow k).squeeze S128x512 squeezes_S1x128x512_S128x512
abbrev rRow2 (k : Fin 3) : Memref sig .tc .vmem S128x512 .bf16 := (rRow k).squeeze S128x512 squeezes_S1x128x512_S128x512

/-- The runtime's barrier semaphore, and the send and receive semaphores of slot `k`. -/
abbrev barS : Sem sig := (SemArray.scalar (sig.barrier 0 rfl) : Sems sig S_).sem
abbrev sendS (k : Fin 3) : DmaSem sig := ⟨4 + k.val, by show 4 + k.val < 10; omega⟩
abbrev recvS (k : Fin 3) : DmaSem sig := ⟨7 + k.val, by show 7 + k.val < 10; omega⟩

abbrev barCell (c : Dev nD) : GSem nD τ sig := ((c : Thread nD τ), .reg barS)
abbrev sendCell (c : Dev nD) (k : Fin 3) : GSem nD τ sig := ((c : Thread nD τ), .dma (sendS k))
abbrev recvCell (c : Dev nD) (k : Fin 3) : GSem nD τ sig := ((c : Thread nD τ), .dma (recvS k))

/-- The kernel's own semaphores: send (`false`) and receive (`true`) of each slot; -/
abbrev osem : Bool × Fin 3 → SemLoc sig := fun | (false, k) => .dma (sendS k) | (true, k) => .dma (recvS k)
/-- and the barrier beside them. -/
abbrev csem : Option (Bool × Fin 3) → SemLoc sig := fun | none => .reg barS | some x => osem x
/-- A device's cell of that name. -/
abbrev kcell (ck : Dev nD × Option (Bool × Fin 3)) : GSem nD τ sig := ((ck.1 : Thread nD τ), csem ck.2)

/-- The size of a row in the unit the copies raise semaphores by. -/
abbrev N : ℕ := (rRow2 0).view.dmaCredit
/-- A row's credit is not zero. -/
theorem N_pos : 0 < N := View.dmaCredit_pos _ (by decide)

/-! ## Contents -/

/-- What the staging buffers hold: the tokens, their experts, the device's four experts' weights. -/
def xstg (c : Dev nD) : (cc0_stg0_0 : Ref sig .tc).ty.Contents (Elt F) :=
  (win0_0.blk (0 : Fin 1)).view.read (Elt F) ((s₀ m ρ).mem ((c : Thread nD τ).loc main_arg0))
def istg (c : Dev nD) : (cc0_stg1_0 : Ref sig .tc).ty.Contents (Elt F) :=
  (win0_1.blk (0 : Fin 1)).view.read (Elt F) ((s₀ m ρ).mem ((c : Thread nD τ).loc main_arg2))
def wstg (c : Dev nD) : (cc0_stg2_0 : Ref sig .tc).ty.Contents (Elt F) :=
  (win0_2.blk (0 : Fin 1)).view.read (Elt F) ((s₀ m ρ).mem ((c : Thread nD τ).loc main_arg3))

/-- The keep column (one per token, 1 if the token is within its expert's first 25, else 0) and the narrowed weights. -/
abbrev kept (c : Dev nD) : (cc0_scratch0 : Ref sig .tc).ty.Contents (Elt F) := k0_pay2 (k0_pay1 (istg m ρ c) (istg m ρ c))
abbrev wbf (c : Dev nD) : (cc0_scratch1 : Ref sig .tc).ty.Contents (Elt F) := k0_pay3 (wstg m ρ c)

/-- The device's number as the kernel computes it. -/
abbrev word (c : Dev nD) : BitVec 32 := Scalar.remsi (Scalar.divsi (Dev.word c) 1#32) 4#32

/-- Matrix `l` lies in the four matrices. -/
theorem w_inb (l : Fin 4) : ∀ a, (![l.val, 0, 0] : Fin 3 → Nat) a + S1x256x512.size a ≤ S4x256x512.size a := by
  revert l; decide

/-- The chunk of tokens, experts and keep flags at the rows a load names, and one expert's weights. -/
abbrev xAt (c : Dev nD) (off : Fin 2 → ℕ) (h : ∀ a, off a + S128x256.size a ≤ S512x256.size a) : Vec F S128x256 .f32 :=
  xM.view.readAt (Elt F) (Rect.unit (s := S512x256) off S128x256.size h).toLoadRect (xstg m ρ c)
abbrev iAt (c : Dev nD) (off : Fin 2 → ℕ) (h : ∀ a, off a + S128x1.size a ≤ S512x1.size a) : Vec F S128x1 .i32 :=
  iM.view.readAt (Elt F) (Rect.unit (s := S512x1) off S128x1.size h).toLoadRect (istg m ρ c)
abbrev kAt (c : Dev nD) (off : Fin 2 → ℕ) (h : ∀ a, off a + S128x1.size a ≤ S512x1.size a) : Vec F S128x1 .f32 :=
  kM.view.readAt (Elt F) (Rect.unit (s := S512x1) off S128x1.size h).toLoadRect (kept m ρ c)
abbrev wAt (c : Dev nD) (l : Fin 4) : Vec F S1x256x512 .bf16 :=
  bM.view.readAt (Elt F) (Rect.unit (s := S4x256x512) ![l.val, 0, 0] S1x256x512.size (w_inb l)).toLoadRect (wbf m ρ c)

/-- One expert's contribution to a chunk: the rows routed to it and kept, the others zeroed, times its weights. -/
def term (v : BitVec 32) (l : BitVec 32) (x : Vec F S128x256 .f32) (e : Vec F S128x1 .i32) (k : Vec F S128x1 .f32)
    (w : Vec F S1x256x512 .bf16) : FVec F S128x512 .f32 :=
  matmul dot_S128x256_S256x512_S128x512_1_0_0_1_n_n none
    (truncf .bf16 (mulf (shapeCast S128x256 x shapeCasts_S128x256_S128x256)
      (broadcastTo S128x256 (mulf k (sitofp .f32 (extui 32
        (cmpi .eq (shapeCast S128x1 e shapeCasts_S128x1_S128x1) (broadcast S128x1 (Scalar.addi (Scalar.muli v 4#32) l))) natLt_1_32)))
        broadcasts_S128x1_S128x256)) bitsLt_bf16_f32)
    (shapeCast S256x512 w shapeCasts_S1x256x512_S256x512) (constant S128x512 .f32 0x00000000#32)

/-- A chunk's result over the device's four experts. -/
def part (v : BitVec 32) (x : Vec F S128x256 .f32) (e : Vec F S128x1 .i32) (k : Vec F S128x1 .f32)
    (w : Fin 4 → Vec F S1x256x512 .bf16) : FVec F S128x512 .f32 :=
  addf (addf (addf (addf (broadcast S128x512 (Scalar.ofBits .f32 0x00000000#32 : F .f32)) (term v 0#32 x e k (w 0))) (term v 1#32 x e k (w 1)))
    (term v 2#32 x e k (w 2))) (term v 3#32 x e k (w 3))

/-- The chunk device `c` computes for the device of slot `k`, and as the row it sends; -/
def partTo (c : Dev nD) (k : Fin 3) : FVec F S128x512 .f32 :=
  part (word c) (xAt m ρ c (k0_off1 c (BitVec.ofNat 32 (1 + k.val))) (k0_off1_inb c k)) (iAt m ρ c (k0_off2 c (BitVec.ofNat 32 (1 + k.val))) (k0_off2_inb c k))
    (kAt m ρ c (k0_off2 c (BitVec.ofNat 32 (1 + k.val))) (k0_off2_inb c k)) (wAt m ρ c)
/-- What device `c` sends in slot `k`. -/
def sent (c : Dev nD) (k : Fin 3) : Vec F S1x128x512 .bf16 :=
  shapeCast S1x128x512 (truncf .bf16 (partTo m ρ c k) bitsLt_bf16_f32) shapeCasts_S128x512_S1x128x512
/-- the chunk it computes for itself, -/
def partOwn (c : Dev nD) : FVec F S128x512 .f32 :=
  part (word c) (xAt m ρ c (k0_off3 c) (k0_off3_inb c)) (iAt m ρ c (k0_off4 c) (k0_off4_inb c)) (kAt m ρ c (k0_off4 c) (k0_off4_inb c)) (wAt m ρ c)
/-- what its landing row `k` receives, widened, -/
def got (c : Dev nD) (k : Fin 3) : FVec F S128x512 .f32 :=
  extf .f32 (shapeCast S128x512 (sent m ρ (hop k.rev c) k) shapeCasts_S1x128x512_S128x512) bitsLt_bf16_f32
/-- and its result: the four devices' contributions to its own rows. -/
def result (c : Dev nD) : (cc0_stg3_0 : Ref sig .tc).ty.Contents (Elt F) :=
  addf (addf (addf (partOwn m ρ c) (got m ρ c 0)) (got m ρ c 1)) (got m ρ c 2)

/-! ## The schedule -/

/-- Device `c`'s send row, landing row at given contents. -/
abbrev sRowAt (c : Dev nD) (k : Fin 3) (X : Vec F S1x128x512 .bf16) : sProp 𝕄 := owns (c : Thread nD τ) (sRow k) fullShare X
abbrev rRowAt (c : Dev nD) (k : Fin 3) (X : Vec F S1x128x512 .bf16) : sProp 𝕄 := owns (c : Thread nD τ) (rRow k) fullShare X
/-- Row `k` of a three-row buffer at some contents. -/
def anyRow (c : Dev nD) (M : Memref sig .tc .vmem S3x128x512 .bf16) (k : Fin 3) : sProp 𝕄 :=
  ownsSat (c : Thread nD τ) (M.slice (row k) (fun _ => rfl)) fullShare (fun _ => True)

omit [FloatOps F] in
instance sRowAt_storable (c : Dev nD) (k : Fin 3) (X) : BI.Storable (upEmb : UEmb _ 𝕄) (sRowAt (F := F) c k X) := by unfold sRowAt; infer_instance
omit [FloatOps F] in
instance rRowAt_storable (c : Dev nD) (k : Fin 3) (X) : BI.Storable (upEmb : UEmb _ 𝕄) (rRowAt (F := F) c k X) := by unfold rRowAt; infer_instance
omit [FloatOps F] in
instance anyRow_storable (c : Dev nD) (M) (k : Fin 3) : BI.Storable (upEmb : UEmb _ 𝕄) (anyRow (F := F) c M k) := by unfold anyRow; infer_instance

/-- What slot `k`'s signal hands `b`: the signaller's landing row that `b` writes. -/
def barPay (b : Dev nD) (k : Fin 3) : sProp 𝕄 := anyRow (hop k.rev b) rM k.rev
/-- What the arrival of slot `k` hands `c`; what the completion of its own copy `k` hands it back. -/
def recvPay (c : Dev nD) (k : Fin 3) : sProp 𝕄 := rRowAt c k (sent m ρ (hop k.rev c) k)
/-- What a send credit hands over: the row that was read. -/
def sendPay (c : Dev nD) (k : Fin 3) : sProp 𝕄 := sRowAt c k (sent m ρ c k)

/-- The slot a copy semaphore is of. -/
abbrev slotOf (q : DmaSem sig) : Fin 3 := ⟨(q.val + 2) % 3, Nat.mod_lt _ (by decide)⟩

/-- One round. A barrier cell has the three slots as duties, of one unit each; a send or receive cell one duty, of a row's size. -/
def sched : Rounds.Schedule (GSem nD τ sig) (Fin 3) 𝕄 where
  duties g r := if r = 0 ∧ g.1.2 = .tc then (match g.2 with | .reg _ => Finset.univ | .dma q => if 4 ≤ q.val then {0} else ∅) else ∅
  unitless _ := False
  amount g _ _ := match g.2 with | .reg _ => 1 | .dma _ => N
  payload g _ d := match g.2 with
    | .reg _ => barPay g.1.1 d
    | .dma q => if 7 ≤ q.val then recvPay m ρ g.1.1 (slotOf q) else sendPay m ρ g.1.1 (slotOf q)
  amount_pos g _ _ _ := by
    cases g.2 with
    | reg _ => exact Nat.one_pos
    | dma _ => exact N_pos

instance sched_storable (g : GSem nD τ sig) (r : ℕ) (d : Fin 3) :
    BI.Storable (upEmb : UEmb _ 𝕄) ((sched (F := F) m ρ).payload g r d) := by
  show BI.Storable upEmb (match g.2 with
    | .reg _ => barPay g.1.1 d
    | .dma q => if 7 ≤ q.val then recvPay m ρ g.1.1 (slotOf q) else sendPay m ρ g.1.1 (slotOf q))
  unfold barPay recvPay sendPay
  (repeat' split) <;> infer_instance

section Tables
variable (c : Dev nD) (k : Fin 3)

theorem slot_send : slotOf (sendS k) = k := by revert k; decide
theorem slot_recv : slotOf (recvS k) = k := by revert k; decide

theorem duties_bar : (sched (F := F) m ρ).duties (barCell c) 0 = Finset.univ := rfl
theorem duties_send : (sched (F := F) m ρ).duties (sendCell c k) 0 = {0} := if_pos (Nat.le_add_right 4 k.val)
theorem duties_recv : (sched (F := F) m ρ).duties (recvCell c k) 0 = {0} := if_pos (show 4 ≤ 7 + k.val by omega)
/-- No cell has a second round. -/
theorem duties_later (g : GSem nD τ sig) : ∀ r, 1 ≤ r → (sched (F := F) m ρ).duties g r = ∅ :=
  fun r hr => if_neg fun h => by omega

theorem payload_bar : (sched (F := F) m ρ).payload (barCell c) 0 k = barPay c k := rfl
theorem payload_send (d : Fin 3) : (sched (F := F) m ρ).payload (sendCell c k) 0 d = sendPay m ρ c k := by
  show (if 7 ≤ 4 + k.val then _ else sendPay m ρ c (slotOf (sendS k))) = _
  rw [if_neg (by omega), slot_send]
theorem payload_recv (d : Fin 3) : (sched (F := F) m ρ).payload (recvCell c k) 0 d = recvPay m ρ c k := by
  show (if 7 ≤ 7 + k.val then recvPay m ρ c (slotOf (recvS k)) else _) = _
  rw [if_pos (Nat.le_add_right _ _), slot_recv]

/-- A barrier round is 3 units, a send or receive round one row. -/
theorem expect_bar : (sched (F := F) m ρ).expect (barCell c) 0 = 3 := rfl
theorem expect_send : (sched (F := F) m ρ).expect (sendCell c k) 0 = N := by
  unfold Schedule.expect Schedule.amountOf; rw [duties_send, Finset.sum_singleton]; rfl
theorem expect_recv : (sched (F := F) m ρ).expect (recvCell c k) 0 = N := by
  unfold Schedule.expect Schedule.amountOf; rw [duties_recv, Finset.sum_singleton]; rfl

/-- What a whole round hands over: the three landing rows; the row back; the arrived row. -/
theorem rest_bar : bigSep ((sched (F := F) m ρ).duties (barCell c) 0 \ ∅) (fun d => (sched (F := F) m ρ).payload (barCell c) 0 d)
    = iprop(barPay c 2 ∗ barPay c 1 ∗ barPay c 0) := by
  rw [Finset.sdiff_empty, duties_bar, bigSep_univ_eq_bigSepL [2, 1, 0] (by decide) (by decide)]
  rfl
theorem rest_send : bigSep ((sched (F := F) m ρ).duties (sendCell c k) 0 \ ∅) (fun d => (sched (F := F) m ρ).payload (sendCell c k) 0 d)
    = sendPay m ρ c k := by
  rw [Finset.sdiff_empty, duties_send, bigSep_singleton, payload_send]
theorem rest_recv : bigSep ((sched (F := F) m ρ).duties (recvCell c k) 0 \ ∅) (fun d => (sched (F := F) m ρ).payload (recvCell c k) 0 d)
    = recvPay m ρ c k := by
  rw [Finset.sdiff_empty, duties_recv, bigSep_singleton, payload_recv]

end Tables

/-! ## What a device owes at launch; the levels -/

/-- The row a device owes the receive cell of slot `k`'s device, and the unit it owes that device's barrier. -/
abbrev owedRow (c : Dev nD) (k : Fin 3) : CellTallies nD τ sig Unit := tallyAt (recvCell (hop k c) k) () N
abbrev owedBar (c : Dev nD) (k : Fin 3) : CellTallies nD τ sig Unit := tallyAt (barCell (hop k c)) () 1
/-- The three rows, the first sent last in the sum; -/
def owedRows (c : Dev nD) : CellTallies nD τ sig Unit := 0 + owedRow c 2 + owedRow c 1 + owedRow c 0
/-- with the three signals. -/
def O₀ (c : Dev nD) : CellTallies nD τ sig Unit := owedRows c + owedBar c 2 + owedBar c 1 + owedBar c 0

/-- Every TensorCore cell has one index; -/
def L (g : GSem nD τ sig) : Finset Unit := if g.1.2 = .tc then {()} else ∅
/-- barrier cells are at level 1, receive cells at 2, all others at 0. -/
def lv (g : GSem nD τ sig) (_ : Unit) : ℕ := match g.2 with | .reg _ => 1 | .dma q => if 7 ≤ q.val then 2 else 0

/-- Only the tensor cores' cells have levels. -/
theorem L_of_ne (g : GSem nD τ sig) (h : g.1.2 ≠ .tc) : L g = ∅ := if_neg h
/-- The receive cells lie at level 2. -/
theorem lv_recv (c : Dev nD) (k : Fin 3) : lv (recvCell c k) () = 2 := if_pos (Nat.le_add_right _ _)

/-- A tally at one cell is zero at every other, -/
theorem tally_pos {g g' : GSem nD τ sig} {n : ℕ} {u : Unit} (h : 0 < (tallyAt g () n : CellTallies nD τ sig Unit) g' u) : g' = g := by
  rw [tallyAt_apply] at h
  by_contra hn
  rw [if_neg (fun h' => hn h'.1)] at h
  exact Nat.lt_irrefl 0 h

/-- and a sum of tallies is positive only where one of them is. -/
theorem add_pos_cases {O O' : CellTallies nD τ sig Unit} {g : GSem nD τ sig} {u : Unit} (h : 0 < (O + O') g u) : 0 < O g u ∨ 0 < O' g u := by
  rw [Pi.add_apply, Finsupp.add_apply] at h; omega

/-- What the rows are owed to are receive cells; -/
theorem owedRows_pos {c : Dev nD} {g : GSem nD τ sig} {u : Unit} (h : 0 < owedRows c g u) : ∃ k, g = recvCell (hop k c) k := by
  rcases add_pos_cases h with h | h
  · rcases add_pos_cases h with h | h
    · rcases add_pos_cases h with h | h
      · exact absurd h (Nat.lt_irrefl 0)
      · exact ⟨2, tally_pos h⟩
    · exact ⟨1, tally_pos h⟩
  · exact ⟨0, tally_pos h⟩
/-- at launch, barrier cells beside them. -/
theorem O₀_pos {c : Dev nD} {g : GSem nD τ sig} {u : Unit} (h : 0 < O₀ c g u) : ∃ k, g = recvCell (hop k c) k ∨ g = barCell (hop k c) := by
  rcases add_pos_cases h with h | h
  · rcases add_pos_cases h with h | h
    · rcases add_pos_cases h with h | h
      · exact (owedRows_pos h).imp fun _ => Or.inl
      · exact ⟨2, .inr (tally_pos h)⟩
    · exact ⟨1, .inr (tally_pos h)⟩
  · exact ⟨0, .inr (tally_pos h)⟩

omit [FloatOps F] in
/-- A device that owes only cells above level `n` may wait on a cell of its own at level `n`. -/
theorem mayWait_of (c : Dev nD) (sm : SemLoc sig) (n : ℕ) (O : CellTallies nD τ sig Unit) (hn : lv ((c : Thread nD τ), sm) () ≤ n)
    (hO : ∀ g u, 0 < O g u → g.1.2 = .tc ∧ n < lv g u) : (levAts L lv : sProp 𝕄) ⊢ MayWait (c : Thread nD τ) sm () O :=
  MayOwe.of_cut (L := L) (lev := lv) n
    (fun p hp => by rw [Finset.mem_singleton.mp hp]; exact Finset.mem_singleton_self _)
    (fun g u hg => by unfold L; rw [if_pos (hO g u hg).1]; exact Finset.mem_singleton_self _)
    (fun p hp => by rw [Finset.mem_singleton.mp hp]; exact hn)
    (fun g u hg => (hO g u hg).2)

omit [FloatOps F] in
/-- At its barrier wait a device owes rows only; -/
theorem mayWait_bar (c : Dev nD) : (levAts L lv : sProp 𝕄) ⊢ MayWait (c : Thread nD τ) (.reg barS) () (owedRows c) :=
  mayWait_of c _ 1 _ le_rfl fun g u hg => by
    obtain ⟨k, rfl⟩ := owedRows_pos hg
    exact ⟨rfl, by rw [show u = () from rfl, lv_recv]; decide⟩
omit [FloatOps F] in
/-- and at a staging wait it owes what it owed at launch, or nothing. -/
theorem mayWait_stage (c : Dev nD) (q : DmaSem sig) (hq : q.val < 7) (O : CellTallies nD τ sig Unit) (hO : O = O₀ c ∨ O = 0) :
    (levAts L lv : sProp 𝕄) ⊢ MayWait (c : Thread nD τ) (.dma q) () O := by
  rcases hO with rfl | rfl
  · refine mayWait_of c _ 0 _ (by show (if 7 ≤ q.val then 2 else 0) ≤ 0; rw [if_neg (by omega)]) fun g u hg => ?_
    obtain ⟨k, rfl | rfl⟩ := O₀_pos hg
    · exact ⟨rfl, by rw [show u = () from rfl, lv_recv]; decide⟩
    · exact ⟨rfl, Nat.one_pos⟩
  · rw [MayWait_zero]; iintro -; iempintro

/-! ## Rows and whole buffers -/

/-- Two rows do not meet, -/
theorem rows_disjoint (k k' : Fin 3) (h : k ≠ k') : Disjoint (row k).set (row k').set :=
  Ring.lead_disjoint (s := S3x128x512) (0 : Fin 3) 1 (fun k : Fin 3 => ![k.val, 0, 0]) S1x128x512.size row_inb
    (fun k => (Nat.one_mul _).symm) rfl k k' h
/-- and the three rows are the whole buffer. -/
theorem rows_cover : (Finset.univ : Finset (Fin 3)).biUnion (fun k => (row k).set) = Finset.univ :=
  Ring.lead_cover (s := S3x128x512) (0 : Fin 3) 1 (fun k : Fin 3 => ![k.val, 0, 0]) S1x128x512.size row_inb
    (fun k => (Nat.one_mul _).symm) (by decide) rfl (by decide) rfl

omit [FloatOps F] in
/-- A whole three-row buffer is its three rows, -/
theorem rows_split (c : Dev nD) (M : Memref sig .tc .vmem S3x128x512 .bf16) :
    ownsSat (c : Thread nD τ) M fullShare (fun _ => True) ⊢ (iprop(anyRow c M 0 ∗ anyRow c M 1 ∗ anyRow c M 2) : sProp 𝕄) := by
  rw [← Ring.bigSep_fin3 (fun k => (anyRow c M k : sProp 𝕄))]
  have h : (ownsSat (c : Thread nD τ) M fullShare (fun _ => True) : sProp 𝕄)
      ⊢ ownsSat (c : Thread nD τ) M fullShare (fun _ => ∀ _ : Fin 3, True) := by
    unfold ownsSat; iintro ⟨%f, -, H⟩; iexists f; isplitr
    · ipureintro; exact fun _ => trivial
    · iexact H
  exact h.trans (ownsSat_rects (c : Thread nD τ) M fullShare row (fun _ _ => rfl) rows_disjoint rows_cover (fun _ _ => True))

/-- and back. -/
theorem rows_join (c : Dev nD) (M : Memref sig .tc .vmem S3x128x512 .bf16) :
    (iprop(anyRow c M 0 ∗ anyRow c M 1 ∗ anyRow c M 2) : sProp 𝕄) ⊢ ownsSat (c : Thread nD τ) M fullShare (fun _ => True) := by
  rw [← Ring.bigSep_fin3 (fun k => (anyRow c M k : sProp 𝕄))]
  refine (ownsSat_of_rects (c : Thread nD τ) M fullShare row (fun _ _ => rfl) rows_disjoint rows_cover (fun _ _ => True)).trans ?_
  unfold ownsSat; iintro ⟨%f, -, H⟩; iexists f; isplitr
  · ipureintro; trivial
  · iexact H

omit [FloatOps F] in
/-- A whole buffer at some contents, -/
theorem whole_any (c : Dev nD) (b : Ref sig .tc) :
    iprop(∃ f : Buf (Elt F) ((c : Thread nD τ).loc b), ((c : Thread nD τ).loc b) ↦{fullShare} f)
      ⊢ (ownsSat (c : Thread nD τ) (Memref.whole b) fullShare (fun _ => True) : sProp 𝕄) := by
  unfold ownsSat; simp only [Memref.view_whole, View.set_whole]
  iintro ⟨%f, H⟩; iexists f; isplitr
  · ipureintro; trivial
  · iexact H

omit [FloatOps F] in
/-- and back. -/
theorem any_whole (c : Dev nD) (b : Ref sig .tc) :
    (ownsSat (c : Thread nD τ) (Memref.whole b) fullShare (fun _ => True) : sProp 𝕄)
      ⊢ iprop(∃ f : Buf (Elt F) ((c : Thread nD τ).loc b), ((c : Thread nD τ).loc b) ↦{fullShare} f) := by
  unfold ownsSat; simp only [Memref.view_whole, View.set_whole]
  iintro ⟨%f, -, H⟩; iexists f; iexact H

/-- A row at known contents is a row at some contents. -/
theorem anyRow_of (c : Dev nD) (M : Memref sig .tc .vmem S3x128x512 .bf16) (k : Fin 3) (X) :
    (owns (c : Thread nD τ) (M.slice (row k) (fun _ => rfl)) fullShare X : sProp 𝕄) ⊢ anyRow c M k := by
  unfold anyRow owns ownsSat
  iintro ⟨%f, -, H⟩; iexists f; isplitr
  · ipureintro; trivial
  · iexact H

end Cert.Dispatch
-- ==== Proof.Steps.lean ====
/-
The steps of the kernel that touch the protocol: signal, barrier wait, row load and store, copy, receive and send wait.
Each is the library's rule at this protocol's cells, its slot a variable; the offset, device and semaphore the program
writes are variables too, with what they are equal to as hypotheses.
-/
module

public import proofs.«01_k».proof.Proof.Protocol

@[expose] public section

noncomputable section

namespace Cert.Dispatch

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Option (Bool × Fin 3) → ℕ)

abbrev 𝒱₀ : Variants := Variants.none

/-! ## The cells' records -/

/-- Every cell's invariant, at some names, and that every cell has reached its round: these may be used any number of times. -/
def records : sProp 𝕄 :=
  iprop((bigSep Finset.univ fun ck : Dev nD × Option (Bool × Fin 3) => cellInv ER (sched m ρ) (K ck) (kcell ck))
    ∗ bigSep Finset.univ fun ck : Dev nD × Option (Bool × Fin 3) => reached ER (kcell ck) 0)

instance records_persistent : BI.Persistent (records m ρ K) := by unfold records; infer_instance

/-- A cell's invariant, -/
theorem inv_at (ck : Dev nD × Option (Bool × Fin 3)) : records m ρ K ⊢ cellInv ER (sched m ρ) (K ck) (kcell ck) := by
  have h : records m ρ K ⊢ bigSep Finset.univ fun ck : Dev nD × Option (Bool × Fin 3) => (cellInv ER (sched m ρ) (K ck) (kcell ck) : sProp 𝕄) := by
    unfold records; iintro ⟨H, -⟩; iexact H
  exact h.trans (bigSep_elim (Finset.mem_univ ck))
/-- and that it has reached its round. -/
theorem reached_at (ck : Dev nD × Option (Bool × Fin 3)) : records m ρ K ⊢ reached ER (kcell ck) 0 := by
  have h : records m ρ K ⊢ bigSep Finset.univ fun ck : Dev nD × Option (Bool × Fin 3) => (reached ER (kcell ck) 0 : sProp 𝕄) := by
    unfold records; iintro ⟨-, H⟩; iexact H
  exact h.trans (bigSep_elim (Finset.mem_univ ck))

/-- What a device owes, having waited on some cells. -/
def owing (c : Dev nD) (O : CellTallies nD τ sig Unit) : sProp 𝕄 := iprop(∃ W, owes (c : Thread nD τ) O W)

/-! ## Signal and barrier wait -/

/-- Signal `k` pays its unit and hands over the signaller's landing row `k.rev`. -/
theorem wp_sig (c n : Dev nD) (k : Fin 3) (hn : n = hop k c) (O : CellTallies nD τ sig Unit)
    {α : Type} {Q : α → sProp 𝕄} {κ : PUnit → Prog (TpuEff nD τ sig (Elt F) Λ₀ .tc) α} :
    iprop(records m ρ K ∗ owing c (O + owedBar c k) ∗ dutyTok ER (barCell (hop k c)) 0 k ∗ anyRow c rM k.rev)
      ⊢ iprop((owing c O -∗ wp frame (wpE (defs₀ (F := F)) 𝒱₀ (c : Thread nD τ) none) Set.univ (κ ⟨⟩) Q)
          -∗ wp frame (wpE (defs₀ (F := F)) 𝒱₀ (c : Thread nD τ) none) Set.univ (.op (.semSignal (n, .tc) barS (1#32).toInt) κ) Q) := by
  subst hn
  unfold owing
  iintro ⟨#HR, ⟨%W, HO⟩, Ht, Hr⟩ Hk
  iapply (Rounds.wp_signal 𝒱₀ ER (sched m ρ) (c : Thread nD τ) none (dst := (hop k c : Thread nD τ)) (κ := K (hop k c, none))
      (d := k) (by rw [duties_bar]; exact Finset.mem_univ _) (show 1 = _ by decide) () O rfl) $$ [HO Ht Hr]
  · isplitr; · iapply (inv_at m ρ K (hop k c, none)); iexact HR
    isplitl [HO]; · iexact HO
    isplitl [Ht]; · iexact Ht
    isplitl [Hr]; · rw [payload_bar]; unfold barPay; rw [hop_rev_hop]; iexact Hr
    iapply (reached_at m ρ K (hop k c, none)); iexact HR
  iintro HO; iapply Hk; iexists W; iexact HO

/-- The barrier wait returns the three landing rows this device writes, and the barrier's counter at zero. -/
theorem wp_wait_bar (c : Dev nD)
    {α : Type} {Q : α → sProp 𝕄} {κ : PUnit → Prog (TpuEff nD τ sig (Elt F) Λ₀ .tc) α} :
    iprop(records m ρ K ∗ levAts L lv ∗ cred (tallyAt (barCell c) () 3) ∗ owing c (owedRows c) ∗ atPos ER (barCell c) 0 ∅ 0)
      ⊢ iprop(((owing c (owedRows c) ∗ (anyRow (hop 0 c) rM 0 ∗ anyRow (hop 1 c) rM 1 ∗ anyRow (hop 2 c) rM 2) ∗ semVal (barCell c) 0)
            -∗ wp frame (wpE (defs₀ (F := F)) 𝒱₀ (c : Thread nD τ) none) Set.univ (κ ⟨⟩) Q)
          -∗ wp frame (wpE (defs₀ (F := F)) 𝒱₀ (c : Thread nD τ) none) Set.univ (.op (.semWait barS (3#32).toNat) κ) Q) := by
  unfold owing
  iintro ⟨#HR, #Hlev, Hc, ⟨%W, HO⟩, Hat⟩ Hk
  iapply (Rounds.wp_wait_rest_token 𝒱₀ ER (sched m ρ) (c : Thread nD τ) none (κ := K (c, none))
      (wpE_semWait_eq 𝒱₀ (c : Thread nD τ) none Set.univ) (Set.mem_univ _) () (O := owedRows c) (W := W) (R := 0) (m := 0) (T := ∅)
      (by rw [expect_bar]; decide)) $$ [Hc HO Hat]
  · isplitr; · iapply (inv_at m ρ K (c, none)); iexact HR
    isplitl [Hc]; · iexact Hc
    isplitl [HO]; · iexact HO
    isplitr; · iapply (mayWait_bar c); iexact Hlev
    iexact Hat
  iintro ⟨HO, Hat, -, Hpay⟩
  ihave Hp := (Entails.of_eq (rest_bar m ρ c)) $$ Hpay
  imod (Rounds.cell_close ER (sched m ρ) (Set.mem_univ (K (c, none))) (fun h => h) (R := 0 + 1) (duties_later m ρ (barCell c))) $$ [Hat] with Hz
  · isplitr; · iapply (inv_at m ρ K (c, none)); iexact HR
    iexact Hat
  iapply Hk
  isplitl [HO]; · iexists _; iexact HO
  isplitl [Hp]; · iexact Hp
  iexact Hz

/-! ## Rows -/

section Row
variable (M : Memref sig .tc .vmem S3x128x512 .bf16)

/-- A load of row `k` reads what the row holds. -/
theorem wp_load_row (c : Dev nD) (k : Fin 3) (X : Vec F S1x128x512 .bf16) {off : Fin 3 → ℕ} {inb : ∀ a, off a + S1x128x512.size a ≤ S3x128x512.size a}
    (hoff : off = ![k.val, 0, 0]) {hl : M.view.LoadsAt (Rect.unit (s := S3x128x512) off S1x128x512.size inb).toLoadRect}
    {α : Type} {Q : α → sProp 𝕄} {κ : Vec F S1x128x512 .bf16 → Prog (TpuEff nD τ sig (Elt F) Λ₀ .tc) α} :
    owns (c : Thread nD τ) (M.slice (row k) (fun _ => rfl)) fullShare X
      ⊢ iprop((owns (c : Thread nD τ) (M.slice (row k) (fun _ => rfl)) fullShare X
            -∗ wp frame (wpE (defs₀ (F := F)) 𝒱₀ (c : Thread nD τ) none) Set.univ (κ X) Q)
          -∗ wp frame (wpE (defs₀ (F := F)) 𝒱₀ (c : Thread nD τ) none) Set.univ
            (.op (.load M (Rect.unit (s := S3x128x512) off S1x128x512.size inb).toLoadRect hl) κ) Q) := by
  subst hoff
  unfold owns
  iintro ⟨%f, %hf, H⟩ Hk
  iapply (wp_load 𝒱₀ (c : Thread nD τ) none Set.univ (m := M) (S := (M.slice (row k) (fun _ => rfl)).view.set)
    (by rw [show (M.slice (row k) (fun _ => rfl)).view.set = _ from View.set_slice _ _]; exact subset_rfl)) $$ H
  iintro H
  rw [show M.view.readAt (Elt F) (row k).toLoadRect f = X from hf]
  iapply Hk; iexists f; isplitr; · (ipureintro; exact hf)
  iexact H

/-- A store of row `k` leaves the row holding what is stored. -/
theorem wp_store_row (c : Dev nD) (k : Fin 3) (X w : Vec F S1x128x512 .bf16) {off : Fin 3 → ℕ} {inb : ∀ a, off a + S1x128x512.size a ≤ S3x128x512.size a}
    (hoff : off = ![k.val, 0, 0]) {hx : (M.access (Rect.unit (s := S3x128x512) off S1x128x512.size inb)).Stores Finset.univ}
    {hm : (Finset.univ : Finset (Rect.unit (s := S3x128x512) off S1x128x512.size inb).shape.Idx) = Finset.univ ∨ ∀ a, (Rect.unit (s := S3x128x512) off S1x128x512.size inb).stride a = 1}
    {α : Type} {Q : α → sProp 𝕄} {κ : PUnit → Prog (TpuEff nD τ sig (Elt F) Λ₀ .tc) α} :
    owns (c : Thread nD τ) (M.slice (row k) (fun _ => rfl)) fullShare X
      ⊢ iprop((owns (c : Thread nD τ) (M.slice (row k) (fun _ => rfl)) fullShare w
            -∗ wp frame (wpE (defs₀ (F := F)) 𝒱₀ (c : Thread nD τ) none) Set.univ (κ ⟨⟩) Q)
          -∗ wp frame (wpE (defs₀ (F := F)) 𝒱₀ (c : Thread nD τ) none) Set.univ
            (.op (.store M (Rect.unit (s := S3x128x512) off S1x128x512.size inb) w Finset.univ hx hm) κ) Q) := by
  subst hoff
  unfold owns
  iintro ⟨%f, %hf, H⟩ Hk
  iapply (wp_store 𝒱₀ (c : Thread nD τ) none Set.univ (m := M) (r := row k) (Mk := Finset.univ) (S := (M.slice (row k) (fun _ => rfl)).view.set) subset_rfl) $$ H
  iintro H
  iapply Hk; iexists ((M.slice (row k) (fun _ => rfl)).view.write (Elt F) f w Finset.univ); isplitr
  · ipureintro; exact View.read_write_univ _ _
  iexact H

end Row

/-! ## The copy -/

/-- What a copy between two rows, named as two-dimensional arrays, leaves in the destination row: what the source row holds. -/
theorem row_copied (k : Fin 3) (fs : (sRow2 k).view.ty.Contents (Elt F)) (fd : (rRow2 k).view.ty.Contents (Elt F)) :
    (rRow k).view.read (Elt F) ((rRow2 k).view.write (Elt F) fd ((sRow2 k).view.read (Elt F) fs) Finset.univ) = (sRow k).view.read (Elt F) fs := by
  funext x
  obtain ⟨y, rfl⟩ := (Shape.reshapeEquiv (squeezes_S1x128x512_S128x512).numel_eq).surjective x
  exact congrFun (View.read_write_univ (v := (rRow2 k).view) fd ((sRow2 k).view.read (Elt F) fs)) y

/-- The library's rule for the copy, at this protocol's cells. -/
theorem wp_send_pts (c n : Dev nD) (k : Fin 3) (hn : n = hop k c) (O : CellTallies nD τ sig Unit) (W : Waits sig Unit)
    {hsc : (rRow2 k : Memref sig (Dev.tc n : Thread nD τ).2.kind .vmem S128x512 .bf16).view.ref.isScScratch = false}
    {hsrc : (sRow2 k).view.WordExact} {hdst : (rRow2 k).view.WordExact}
    {hsem : DmaTarget.Typed .vmem (.dma (recvS k)) (.remote (Dev.tc n : Thread nD τ) (rRow2 k : Memref sig .tc .vmem S128x512 .bf16) (.dma (sendS k)) hsc)}
    {α : Type} {Q : α → sProp 𝕄} {κ : PUnit → Prog (TpuEff nD τ sig (Elt F) Λ₀ .tc) α}
    (fs : Buf (Elt F) ((sRow2 k).view.loc (c : Thread nD τ))) (hfs : (sRow k).view.read (Elt F) fs = sent m ρ c k)
    (fd : Buf (Elt F) ((rRow2 k).view.loc (hop k c : Thread nD τ))) :
    iprop(cellInv ER (sched m ρ) (K (c, some (false, k))) (sendCell c k) ∗ cellInv ER (sched m ρ) (K (hop k c, some (true, k))) (recvCell (hop k c) k)
        ∗ ((sRow2 k).view.loc (c : Thread nD τ) ↦[(sRow2 k).view.set]{fullShare} fs) ∗ ((rRow2 k).view.loc (hop k c : Thread nD τ) ↦[(rRow2 k).view.set]{fullShare} fd)
        ∗ owes (c : Thread nD τ) (O + owedRow c k) W
        ∗ dutyTok ER (sendCell c k) 0 0 ∗ reached ER (sendCell c k) 0
        ∗ dutyTok ER (recvCell (hop k c) k) 0 0 ∗ reached ER (recvCell (hop k c) k) 0)
      ⊢ iprop(((cred (tallyAt (sendCell c k) () N) ∗ owes (c : Thread nD τ) O W) -∗ wp frame (wpE (defs₀ (F := F)) 𝒱₀ (c : Thread nD τ) none) Set.univ (κ ⟨⟩) Q)
          -∗ wp frame (wpE (defs₀ (F := F)) 𝒱₀ (c : Thread nD τ) none) Set.univ
              (.op (.enqueueDma (sRow2 k) (.remote (Dev.tc n : Thread nD τ) (rRow2 k) (.dma (sendS k)) hsc) (.dma (recvS k)) hsrc hdst hsem) κ) Q) := by
  subst hn
  exact Rounds.wp_send_pointsTo 𝒱₀ ER (sched m ρ) (c : Thread nD τ) none (κ₁ := K (c, some (false, k))) (κ₂ := K (hop k c, some (true, k)))
    (r₁ := 0) (r₂ := 0) (d₁ := 0) (d₂ := 0) (fd := fd)
    (by rw [duties_send]; exact Finset.mem_singleton_self _) (by rw [duties_recv]; exact Finset.mem_singleton_self _)
    () () N rfl rfl rfl O rfl (W := W)
    (by
      rw [payload_send]; unfold sendPay sRowAt owns
      iintro H; iexists fs; isplitr; · (ipureintro; exact hfs)
      rw [show (sRow2 k).view.set = (sRow k).view.set from View.set_reshape _ _]
      iexact H)
    (by
      rw [payload_recv]; unfold recvPay rRowAt owns
      iintro H; iexists ((rRow2 k).view.write (Elt F) fd ((sRow2 k).view.read (Elt F) fs) Finset.univ); isplitr
      · ipureintro; rw [hop_rev_hop]; exact (row_copied k fs fd).trans hfs
      rw [show (rRow2 k).view.set = (rRow k).view.set from View.set_reshape _ _]
      iexact H)

/-- Copy `k` of `c` to the device of its slot: the row sent comes back at its send cell, and lands at the receive cell. -/
theorem wp_send_row (c n : Dev nD) (k : Fin 3) (hn : n = hop k c) (O : CellTallies nD τ sig Unit)
    {Y : Vec F S1x128x512 .bf16} (hY : Y = sent m ρ c k)
    {off : Fin 3 → ℕ} {inb : ∀ a, off a + S1x128x512.size a ≤ S3x128x512.size a} (hoff : off = ![k.val, 0, 0])
    {sS rS : DmaSem sig} (hs : sS = sendS k) (hr : rS = recvS k)
    {hsc : (((rM.slice (Rect.unit (s := S3x128x512) off S1x128x512.size inb) (fun _ => rfl)).squeeze S128x512 squeezes_S1x128x512_S128x512 :
      Memref sig (Dev.tc n : Thread nD τ).2.kind .vmem S128x512 .bf16)).view.ref.isScScratch = false}
    {hsrc hdst hsem}
    {α : Type} {Q : α → sProp 𝕄} {κ : PUnit → Prog (TpuEff nD τ sig (Elt F) Λ₀ .tc) α} :
    iprop(records m ρ K ∗ owing c (O + owedRow c k) ∗ sRowAt c k Y ∗ anyRow (hop k c) rM k
        ∗ dutyTok ER (sendCell c k) 0 0 ∗ dutyTok ER (recvCell (hop k c) k) 0 0)
      ⊢ iprop(((cred (tallyAt (sendCell c k) () N) ∗ owing c O) -∗ wp frame (wpE (defs₀ (F := F)) 𝒱₀ (c : Thread nD τ) none) Set.univ (κ ⟨⟩) Q)
          -∗ wp frame (wpE (defs₀ (F := F)) 𝒱₀ (c : Thread nD τ) none) Set.univ
              (.op (.enqueueDma ((sM.slice (Rect.unit (s := S3x128x512) off S1x128x512.size inb) (fun _ => rfl)).squeeze S128x512 squeezes_S1x128x512_S128x512)
                (.remote (Dev.tc n : Thread nD τ) ((rM.slice (Rect.unit (s := S3x128x512) off S1x128x512.size inb) (fun _ => rfl)).squeeze S128x512 squeezes_S1x128x512_S128x512)
                  (.dma sS) hsc) (.dma rS) hsrc hdst hsem) κ) Q) := by
  subst hoff hs hr hY
  unfold owing sRowAt anyRow owns ownsSat
  iintro ⟨#HR, ⟨%W, HO⟩, ⟨%fs, %hfs, Hs⟩, ⟨%fd, -, Hd⟩, HtS, HtR⟩ Hk
  iapply (wp_send_pts m ρ K c n k hn O W fs hfs fd) $$ [Hs Hd HO HtS HtR]
  · isplitr; · iapply (inv_at m ρ K (c, some (false, k))); iexact HR
    isplitr; · iapply (inv_at m ρ K (hop k c, some (true, k))); iexact HR
    isplitl [Hs]
    · rw [show (sRow2 k).view.set = (sRow k).view.set from View.set_reshape _ _]; iexact Hs
    isplitl [Hd]
    · rw [show (rRow2 k).view.set = (rRow k).view.set from View.set_reshape _ _]; iexact Hd
    isplitl [HO]; · iexact HO
    isplitl [HtS]; · iexact HtS
    isplitr; · iapply (reached_at m ρ K (c, some (false, k))); iexact HR
    isplitl [HtR]; · iexact HtR
    iapply (reached_at m ρ K (hop k c, some (true, k))); iexact HR
  iintro ⟨Hc, HO⟩
  iapply Hk
  isplitl [Hc]; · iexact Hc
  iexists W; iexact HO

/-! ## The receive and send waits -/

/-- A wait for a row's size on a copy cell of its own, owing nothing: the round's payload, and the counter at zero. -/
theorem wp_wait_cell (c : Dev nD) (b : Bool) (k : Fin 3) (P : sProp 𝕄)
    (hex : (sched (F := F) m ρ).expect (kcell (c, some (b, k))) 0 = N)
    (hrest : bigSep ((sched (F := F) m ρ).duties (kcell (c, some (b, k))) 0 \ ∅) (fun d => (sched (F := F) m ρ).payload (kcell (c, some (b, k))) 0 d) = P)
    {sem : DmaSem sig} (hsem : csem (some (b, k)) = .dma sem)
    {src dst : Memref sig .tc .vmem S128x512 .bf16} {hsrc : src.view.WordExact} {hdst : dst.view.WordExact}
    {α : Type} {Q : α → sProp 𝕄} {κ : PUnit → Prog (TpuEff nD τ sig (Elt F) Λ₀ .tc) α} :
    iprop(records m ρ K ∗ cred (tallyAt (kcell (c, some (b, k))) () N) ∗ owing c 0 ∗ atPos ER (kcell (c, some (b, k))) 0 ∅ 0)
      ⊢ iprop(((owing c 0 ∗ P ∗ semVal (kcell (c, some (b, k))) 0) -∗ wp frame (wpE (defs₀ (F := F)) 𝒱₀ (c : Thread nD τ) none) Set.univ (κ ⟨⟩) Q)
          -∗ wp frame (wpE (defs₀ (F := F)) 𝒱₀ (c : Thread nD τ) none) Set.univ (.op (.waitDma2 sem src dst hsrc hdst) κ) Q) := by
  have hk : kcell (c, some (b, k)) = ((c : Thread nD τ), SemLoc.dma sem) := by unfold kcell; rw [hsem]
  subst hrest
  rw [hk] at hex ⊢
  unfold owing
  iintro ⟨#HR, Hc, ⟨%W, HO⟩, Hat⟩ Hk
  ihave #HI := (inv_at m ρ K (c, some (b, k))) $$ HR
  rw [hk]
  iapply (Rounds.wp_wait_rest_token 𝒱₀ ER (sched m ρ) (c : Thread nD τ) none (κ := K (c, some (b, k)))
      (wpE_waitDma2_eq 𝒱₀ (c : Thread nD τ) none Set.univ) (Set.mem_univ _) () (O := 0) (W := W) (R := 0) (m := 0) (T := ∅)
      (by rw [Nat.zero_add, hex])) $$ [Hc HO Hat]
  · isplitr; · iexact HI
    isplitl [Hc]; · iexact Hc
    isplitl [HO]; · iexact HO
    isplitr; · rw [MayWait_zero]; iempintro
    iexact Hat
  iintro ⟨HO, Hat, -, Hpay⟩
  imod (Rounds.cell_close ER (sched m ρ) (Set.mem_univ (K (c, some (b, k)))) (fun h => h) (R := 0 + 1) (duties_later m ρ _)) $$ [Hat] with Hz
  · isplitr; · iexact HI
    iexact Hat
  iapply Hk
  isplitl [HO]; · iexists _; iexact HO
  isplitl [Hpay]; · iexact Hpay
  iexact Hz

end Cert.Dispatch
-- ==== Proof.Body.lean ====
/-
The kernel's body on one device, run step by step from what the launch gives it to what it leaves: its result in the
output's staging buffer, the scratch buffers at some contents, every counter it used at zero.
-/
module

public import proofs.«01_k».proof.Proof.Steps

@[expose] public section

noncomputable section

namespace Cert.Dispatch

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a device starts from and ends with -/

/-- A whole buffer at some contents. -/
def scr (c : Dev nD) (b : Ref sig .tc) : sProp 𝕄 := iprop(∃ f : Buf (Elt F) ((c : Thread nD τ).loc b), ((c : Thread nD τ).loc b) ↦{fullShare} f)

/-- The kernel's four scratch buffers. -/
def scratch (c : Dev nD) : sProp 𝕄 := iprop(scr c cc0_scratch0 ∗ scr c cc0_scratch1 ∗ scr c cc0_scratch2 ∗ scr c cc0_scratch3)

/-- Slot `k`'s share of a device: its positions at its send and receive cells, and the tokens it pays with: its signal's,
    its copy's at both ends. -/
def slot (c : Dev nD) (k : Fin 3) : sProp 𝕄 :=
  iprop(atPos ER (sendCell c k) 0 ∅ 0 ∗ atPos ER (recvCell c k) 0 ∅ 0
    ∗ dutyTok ER (barCell (hop k c)) 0 k ∗ dutyTok ER (recvCell (hop k c) k) 0 0 ∗ dutyTok ER (sendCell c k) 0 0)

/-- With its position at its barrier cell. -/
def linear (c : Dev nD) : sProp 𝕄 := iprop(atPos ER (barCell c) 0 ∅ 0 ∗ bigSep Finset.univ (slot c))

/-- What the others owe the device: three units at its barrier, a row at each receive cell. -/
def credits (c : Dev nD) : sProp 𝕄 := iprop(cred (tallyAt (barCell c) () 3) ∗ bigSep Finset.univ fun k => cred (tallyAt (recvCell c k) () N))

/-- What the body starts from: its records, its tokens and its credits. -/
def start (c : Dev nD) : sProp 𝕄 := iprop((∃ K, records m ρ K ∗ linear c) ∗ credits c ∗ levAts L lv)

/-- The counters of the device's seven cells, at zero. -/
def zeros (c : Dev nD) : sProp 𝕄 := iprop(semVal (barCell c) 0 ∗ bigSep Finset.univ fun k => iprop(semVal (sendCell c k) 0 ∗ semVal (recvCell c k) 0))

/-- What holds before the one step, -/
def Φ₀ (c : Dev nD) : sProp 𝕄 := iprop(start m ρ c ∗ scratch c)
/-- and after it. -/
def Φ₁ (c : Dev nD) : sProp 𝕄 := iprop(scratch c ∗ zeros c)

/-- The grid has one step, -/
theorem cfg0_N : cfg0.N = 1 := by decide
/-- this one, -/
def t₀ : Fin cfg0.N := ⟨0, by rw [cfg0_N]; decide⟩
/-- and no other. -/
theorem fin_N (t : Fin cfg0.N) : t = t₀ := by
  obtain ⟨t, ht⟩ := t; have := cfg0_N; exact Fin.ext (by simp only [t₀]; omega)

/-- The pipeline's data: arrays as at launch, the inputs' staging buffers unchanged by the body, the output's at the result. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => istg m ρ c
    | ⟨2, _⟩ => wstg m ρ c
    | ⟨3, _⟩ => result m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- Every operand is fetched at the step. -/
theorem fetched (w : Fin cfg0.W) (hw : w ≠ 3) (t : Fin cfg0.N) : (cfg0.win w).fetch t = true := by
  rw [fin_N t]; revert w; decide

/-! ## The stored values, as the program nests them -/

section Pays
variable (v : BitVec 32) (x : Vec F S128x256 .f32) (e : Vec F S128x1 .i32) (k : Vec F S128x1 .f32) (w : Fin 4 → Vec F S1x256x512 .bf16)

/-- A chunk as the row sent. -/
abbrev asRow (y : FVec F S128x512 .f32) : Vec F S1x128x512 .bf16 := shapeCast S1x128x512 (truncf .bf16 y bitsLt_bf16_f32) shapeCasts_S128x512_S1x128x512
/-- A row received, as a chunk. -/
abbrev asChunk (y : Vec F S1x128x512 .bf16) : FVec F S128x512 .f32 := extf .f32 (shapeCast S128x512 y shapeCasts_S1x128x512_S128x512) bitsLt_bf16_f32

/-- The first row stored is the chunk's four terms summed; -/
theorem pay_0 : k0_pay10 (k0_pay8 v (k0_pay4 x) (k0_pay5 e) k (k0_pay6 (F := F)) (k0_pay7 v x e k) (w 0) (w 1) (w 2)) (k0_pay9 v (k0_pay4 x) (k0_pay5 e) k) (w 3)
    = asRow (part v x e k w) := rfl
/-- so is the second, -/
theorem pay_1 : k0_pay17 (k0_pay11 x) k (k0_pay15 v (k0_pay11 x) (k0_pay12 e) k (k0_pay13 (F := F)) (k0_pay14 v e) (w 0) (w 1) (w 2)) (k0_pay16 v (k0_pay12 e)) (w 3)
    = asRow (part v x e k w) := rfl
/-- and the third; -/
theorem pay_2 : k0_pay22 v (k0_pay18 x) (k0_pay19 e) k (k0_pay21 v (k0_pay18 x) (k0_pay19 e) k (k0_pay20 (F := F)) (w 0) (w 1) (w 2)) (w 3)
    = asRow (part v x e k w) := rfl
/-- and the result is the device's own chunk plus the three received. -/
theorem pay_own (r₀ r₁ r₂ : Vec F S1x128x512 .bf16) :
    k0_pay28 (k0_pay27 v (k0_pay23 x) (k0_pay24 e) k (k0_pay25 v (k0_pay23 x) (k0_pay24 e) k (w 0) (w 1)) (k0_pay26 v (k0_pay23 x) (k0_pay24 e) k) (w 2) (w 3) r₀) r₁ r₂
      = addf (addf (addf (part v x e k w) (asChunk r₀)) (asChunk r₁)) (asChunk r₂) := rfl

end Pays

/-! ## Whole-buffer reads and writes -/

theorem hz2 : (![0, 0] : Fin 2 → Nat) = fun _ => 0 := funext fun a => by fin_cases a <;> rfl
theorem hz3 : (![0, 0, 0] : Fin 3 → Nat) = fun _ => 0 := funext fun a => by fin_cases a <;> rfl

omit [FloatOps F] in
theorem read_i (f : (cc0_stg1_0 : Ref sig .tc).ty.Contents (Elt F)) (h) :
    (iM : Memref sig .tc .vmem S512x1 .i32).view.readAt (Elt F) (Rect.unit (s := S512x1) ![0, 0] S512x1.size h).toLoadRect f = f :=
  Memref.readAt_unit_zero (Elt F) cc0_stg1_0 hz2 _ f
omit [FloatOps F] in
theorem read_w (f : (cc0_stg2_0 : Ref sig .tc).ty.Contents (Elt F)) (h) :
    (wM : Memref sig .tc .vmem S4x256x512 .f32).view.readAt (Elt F) (Rect.unit (s := S4x256x512) ![0, 0, 0] S4x256x512.size h).toLoadRect f = f :=
  Memref.readAt_unit_zero (Elt F) cc0_stg2_0 hz3 _ f
omit [FloatOps F] in
theorem write_k (f w : (cc0_scratch0 : Ref sig .tc).ty.Contents (Elt F)) (h) :
    (kM.access (Rect.unit (s := S512x1) ![0, 0] S512x1.size h) : View sig .tc _ _ _).write (Elt F) f w Finset.univ = w :=
  Memref.write_access_unit_zero_univ (Elt F) cc0_scratch0 hz2 _ f w
omit [FloatOps F] in
theorem write_b (f w : (cc0_scratch1 : Ref sig .tc).ty.Contents (Elt F)) (h) :
    (bM.access (Rect.unit (s := S4x256x512) ![0, 0, 0] S4x256x512.size h) : View sig .tc _ _ _).write (Elt F) f w Finset.univ = w :=
  Memref.write_access_unit_zero_univ (Elt F) cc0_scratch1 hz3 _ f w
omit [FloatOps F] in
theorem write_o (f w : (cc0_stg3_0 : Ref sig .tc).ty.Contents (Elt F)) (h) :
    (oM.access (Rect.unit (s := S128x512) ![0, 0] S128x512.size h) : View sig .tc _ _ _).write (Elt F) f w Finset.univ = w :=
  Memref.write_access_unit_zero_univ (Elt F) cc0_stg3_0 hz2 _ f w

/-- A row at some contents is a row at contents one can name. -/
theorem anyRow_elim (c : Dev nD) (M : Memref sig .tc .vmem S3x128x512 .bf16) (k : Fin 3) :
    (anyRow c M k : sProp 𝕄) ⊢ iprop(∃ X, owns (c : Thread nD τ) (M.slice (row k) (fun _ => rfl)) fullShare X) := by
  unfold anyRow; iintro H
  ihave H := (ownsSat_elim (c : Thread nD τ) (M.slice (row k) (fun _ => rfl)) fullShare (fun _ => True)) $$ H
  icases H with ⟨%X, -, H⟩; iexists X; iexact H

/-! ## The body -/

section Run

variable (K : Dev nD × Option (Bool × Fin 3) → ℕ)

/-- A staging buffer at given contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body takes, -/
def bodyPre (c : Dev nD) : sProp 𝕄 :=
  iprop((records m ρ K ∗ linear c ∗ credits c ∗ levAts L lv) ∗ scratch c
    ∗ (dats m ρ 0 c).owesAt () t₀.castSucc
    ∗ (∃ d, stg c cc0_stg0_0 ((dats m ρ 0 c).before (0 : Fin 4) t₀ d))
    ∗ (∃ d, stg c cc0_stg1_0 ((dats m ρ 0 c).before (1 : Fin 4) t₀ d))
    ∗ (∃ d, stg c cc0_stg2_0 ((dats m ρ 0 c).before (2 : Fin 4) t₀ d))
    ∗ (∃ d, stg c cc0_stg3_0 ((dats m ρ 0 c).before (3 : Fin 4) t₀ d)))

/-- and what it leaves. -/
def bodyPost (c : Dev nD) : sProp 𝕄 :=
  iprop(Φ₁ c ∗ (dats m ρ 0 c).owesAt () t₀.succ ∗ stg c cc0_stg0_0 (xstg m ρ c) ∗ stg c cc0_stg1_0 (istg m ρ c)
    ∗ stg c cc0_stg2_0 (wstg m ρ c) ∗ stg c cc0_stg3_0 (result m ρ c))

set_option maxHeartbeats 4000000 in
set_option maxRecDepth 20000 in
/-- The body runs from `bodyPre` to `bodyPost`. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body xM (Memref.isWhole_whole _) iM (Memref.isWhole_whole _) wM (Memref.isWhole_whole _) oM (Memref.isWhole_whole _)
            kM (Memref.isWhole_whole _) bM (Memref.isWhole_whole _) sM (Memref.isWhole_whole _) rM (Memref.isWhole_whole _)
            cc0_scratch4 cc0_scratch5) Kt := by
  simp only [cc0_body_eq_skeleton]; unfold cc0_body_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton, k0_part11_eq_skeleton]
  unfold k0_part1_skel k0_part2_skel k0_part3_skel k0_part4_skel k0_part5_skel k0_part6_skel k0_part7_skel k0_part8_skel
    k0_part9_skel k0_part10_skel k0_part11_skel
  simp only [semSignalWord, semWaitWord, Prog.lift, Prog.bind_op, Prog.bind_ret, Prog.pure_eq_ret, wp_deviceId]
  unfold bodyPre linear credits scratch
  simp only [Ring.bigSep_fin3]
  unfold slot scr
  iintro ⟨⟨⟨#HR, ⟨HatB, ⟨HaS0, HaR0, HtB0, HtR0, HtS0⟩, ⟨HaS1, HaR1, HtB1, HtR1, HtS1⟩, ⟨HaS2, HaR2, HtB2, HtR2, HtS2⟩⟩, ⟨HcB, HcR0, HcR1, HcR2⟩, #Hlev⟩,
    ⟨⟨%fk, Hkeep⟩, ⟨%fw, Hwbf⟩, Hsnd, Hrcv⟩, Ho, ⟨%d0, %g0, %hg0, Hx⟩, ⟨%d1, %g1, %hg1, Hi⟩, ⟨%d2, %g2, %hg2, Hw⟩, ⟨%d3, %g3, %hg3, Hout⟩⟩, Hk⟩
  have hx : g0 = xstg m ρ c := by rw [hg0]; unfold Dat.before; rw [if_pos (fetched 0 (by decide) t₀)]; rfl
  have hi : g1 = istg m ρ c := by rw [hg1]; unfold Dat.before; rw [if_pos (fetched 1 (by decide) t₀)]; rfl
  have hw : g2 = wstg m ρ c := by rw [hg2]; unfold Dat.before; rw [if_pos (fetched 2 (by decide) t₀)]; rfl
  subst hx hi hw
  unfold Dat.owesAt Pipeline.owesWithin
  icases Ho with ⟨%W, %hW, HO⟩
  rw [show (dats m ρ 0 c).owed t₀.castSucc = O₀ c from rfl]
  ihave Hr := ((whole_any c cc0_scratch3).trans (rows_split c rM)) $$ Hrcv
  icases Hr with ⟨Hr0, Hr1, Hr2⟩
  ihave Hs := ((whole_any c cc0_scratch2).trans (rows_split c sM)) $$ Hsnd
  icases Hs with ⟨Hs0, Hs1, Hs2⟩
  -- the three signals, each with a landing row
  ihave HO := (show (owes (c : Thread nD τ) (O₀ c) W : sProp 𝕄) ⊢ owing c (owedRows c + owedBar c 2 + owedBar c 1 + owedBar c 0) from by
    unfold owing O₀; iintro H; iexists W; iexact H) $$ HO
  iapply (wp_sig m ρ K c _ 0 (dev1_eq c) _) $$ [HO HtB0 Hr2]
  · isplitr; · iexact HR
    isplitl [HO]; · iexact HO
    isplitl [HtB0]; · iexact HtB0
    iexact Hr2
  iintro HO
  iapply (wp_sig m ρ K c _ 1 (dev2_eq c) _) $$ [HO HtB1 Hr1]
  · isplitr; · iexact HR
    isplitl [HO]; · iexact HO
    isplitl [HtB1]; · iexact HtB1
    iexact Hr1
  iintro HO
  iapply (wp_sig m ρ K c _ 2 (dev3_eq c) _) $$ [HO HtB2 Hr0]
  · isplitr; · iexact HR
    isplitl [HO]; · iexact HO
    isplitl [HtB2]; · iexact HtB2
    iexact Hr0
  iintro HO
  -- the barrier wait: the three landing rows this device writes
  iapply (wp_wait_bar m ρ K c) $$ [HO HcB HatB]
  · isplitr; · iexact HR
    isplitr; · iexact Hlev
    isplitl [HcB]; · iexact HcB
    isplitl [HO] <;> iassumption
  iintro ⟨HO, ⟨Hd0, Hd1, Hd2⟩, HzB⟩
  unfold owedRows
  -- the keep column and the narrowed weights
  iapply (wp_load 𝒱₀ (c : Thread nD τ) none Set.univ (m := iM) (Finset.subset_univ _)) $$ Hi; iintro Hi
  iapply (wp_load 𝒱₀ (c : Thread nD τ) none Set.univ (m := iM) (Finset.subset_univ _)) $$ Hi; iintro Hi
  rw [read_i]
  iapply (wp_load 𝒱₀ (c : Thread nD τ) none Set.univ (m := kM) (Finset.subset_univ _)) $$ Hkeep; iintro Hkeep
  iapply (wp_store 𝒱₀ (c : Thread nD τ) none Set.univ (m := kM) (r := Rect.unit (s := S512x1) ![0, 0] S512x1.size inb_S512x1_S512x1_0_0) (Mk := Finset.univ) (Finset.subset_univ _)) $$ Hkeep; iintro Hkeep
  rw [write_k]
  iapply (wp_load 𝒱₀ (c : Thread nD τ) none Set.univ (m := wM) (Finset.subset_univ _)) $$ Hw; iintro Hw
  rw [read_w]
  iapply (wp_load 𝒱₀ (c : Thread nD τ) none Set.univ (m := bM) (Finset.subset_univ _)) $$ Hwbf; iintro Hwbf
  iapply (wp_store 𝒱₀ (c : Thread nD τ) none Set.univ (m := bM) (r := Rect.unit (s := S4x256x512) ![0, 0, 0] S4x256x512.size inb_S4x256x512_S4x256x512_0_0_0) (Mk := Finset.univ) (Finset.subset_univ _)) $$ Hwbf; iintro Hwbf
  rw [write_b]
  -- the three chunks for the others: computed, stored in a row, sent
  iapply (wp_load 𝒱₀ (c : Thread nD τ) none Set.univ (m := xM) (Finset.subset_univ _)) $$ Hx; iintro Hx
  iapply (wp_load 𝒱₀ (c : Thread nD τ) none Set.univ (m := iM) (Finset.subset_univ _)) $$ Hi; iintro Hi
  iapply (wp_load 𝒱₀ (c : Thread nD τ) none Set.univ (m := kM) (Finset.subset_univ _)) $$ Hkeep; iintro Hkeep
  iapply (wp_load 𝒱₀ (c : Thread nD τ) none Set.univ (m := bM) (Finset.subset_univ _)) $$ Hwbf; iintro Hwbf
  iapply (wp_load 𝒱₀ (c : Thread nD τ) none Set.univ (m := bM) (Finset.subset_univ _)) $$ Hwbf; iintro Hwbf
  iapply (wp_load 𝒱₀ (c : Thread nD τ) none Set.univ (m := bM) (Finset.subset_univ _)) $$ Hwbf; iintro Hwbf
  iapply (wp_load 𝒱₀ (c : Thread nD τ) none Set.univ (m := bM) (Finset.subset_univ _)) $$ Hwbf; iintro Hwbf
  ihave Hs0 := (anyRow_elim c sM 0) $$ Hs0
  icases Hs0 with ⟨%X0, Hs0⟩
  iapply (wp_load_row sM c 0 X0 rfl) $$ Hs0; iintro Hs0
  iapply (wp_store_row sM c 0 X0 _ rfl) $$ Hs0; iintro Hs0
  iapply (wp_send_row m ρ K c _ 0 (dev4_eq c) _ (pay_0 (word c) (xAt m ρ c (k0_off1 c 1#32) (k0_off1_inb c 0)) (iAt m ρ c (k0_off2 c 1#32) (k0_off2_inb c 0))
      (kAt m ρ c (k0_off2 c 1#32) (k0_off2_inb c 0)) (wAt m ρ c)) rfl rfl rfl) $$ [HO Hs0 Hd0 HtS0 HtR0]
  · isplitr; · iexact HR
    isplitl [HO]; · iexact HO
    isplitl [Hs0]; · iexact Hs0
    isplitl [Hd0]; · iexact Hd0
    isplitl [HtS0] <;> iassumption
  iintro ⟨HcS0, HO⟩
  iapply (wp_load 𝒱₀ (c : Thread nD τ) none Set.univ (m := xM) (Finset.subset_univ _)) $$ Hx; iintro Hx
  iapply (wp_load 𝒱₀ (c : Thread nD τ) none Set.univ (m := iM) (Finset.subset_univ _)) $$ Hi; iintro Hi
  iapply (wp_load 𝒱₀ (c : Thread nD τ) none Set.univ (m := kM) (Finset.subset_univ _)) $$ Hkeep; iintro Hkeep
  iapply (wp_load 𝒱₀ (c : Thread nD τ) none Set.univ (m := bM) (Finset.subset_univ _)) $$ Hwbf; iintro Hwbf
  iapply (wp_load 𝒱₀ (c : Thread nD τ) none Set.univ (m := bM) (Finset.subset_univ _)) $$ Hwbf; iintro Hwbf
  iapply (wp_load 𝒱₀ (c : Thread nD τ) none Set.univ (m := bM) (Finset.subset_univ _)) $$ Hwbf; iintro Hwbf
  iapply (wp_load 𝒱₀ (c : Thread nD τ) none Set.univ (m := bM) (Finset.subset_univ _)) $$ Hwbf; iintro Hwbf
  ihave Hs1 := (anyRow_elim c sM 1) $$ Hs1
  icases Hs1 with ⟨%X1, Hs1⟩
  iapply (wp_load_row sM c 1 X1 rfl) $$ Hs1; iintro Hs1
  iapply (wp_store_row sM c 1 X1 _ rfl) $$ Hs1; iintro Hs1
  iapply (wp_send_row m ρ K c _ 1 (dev5_eq c) _ (pay_1 (word c) (xAt m ρ c (k0_off1 c 2#32) (k0_off1_inb c 1)) (iAt m ρ c (k0_off2 c 2#32) (k0_off2_inb c 1))
      (kAt m ρ c (k0_off2 c 2#32) (k0_off2_inb c 1)) (wAt m ρ c)) rfl rfl rfl) $$ [HO Hs1 Hd1 HtS1 HtR1]
  · isplitr; · iexact HR
    isplitl [HO]; · iexact HO
    isplitl [Hs1]; · iexact Hs1
    isplitl [Hd1]; · iexact Hd1
    isplitl [HtS1] <;> iassumption
  iintro ⟨HcS1, HO⟩
  iapply (wp_load 𝒱₀ (c : Thread nD τ) none Set.univ (m := xM) (Finset.subset_univ _)) $$ Hx; iintro Hx
  iapply (wp_load 𝒱₀ (c : Thread nD τ) none Set.univ (m := iM) (Finset.subset_univ _)) $$ Hi; iintro Hi
  iapply (wp_load 𝒱₀ (c : Thread nD τ) none Set.univ (m := kM) (Finset.subset_univ _)) $$ Hkeep; iintro Hkeep
  iapply (wp_load 𝒱₀ (c : Thread nD τ) none Set.univ (m := bM) (Finset.subset_univ _)) $$ Hwbf; iintro Hwbf
  iapply (wp_load 𝒱₀ (c : Thread nD τ) none Set.univ (m := bM) (Finset.subset_univ _)) $$ Hwbf; iintro Hwbf
  iapply (wp_load 𝒱₀ (c : Thread nD τ) none Set.univ (m := bM) (Finset.subset_univ _)) $$ Hwbf; iintro Hwbf
  iapply (wp_load 𝒱₀ (c : Thread nD τ) none Set.univ (m := bM) (Finset.subset_univ _)) $$ Hwbf; iintro Hwbf
  ihave Hs2 := (anyRow_elim c sM 2) $$ Hs2
  icases Hs2 with ⟨%X2, Hs2⟩
  iapply (wp_load_row sM c 2 X2 rfl) $$ Hs2; iintro Hs2
  iapply (wp_store_row sM c 2 X2 _ rfl) $$ Hs2; iintro Hs2
  iapply (wp_send_row m ρ K c _ 2 (dev6_eq c) _ (pay_2 (word c) (xAt m ρ c (k0_off1 c 3#32) (k0_off1_inb c 2)) (iAt m ρ c (k0_off2 c 3#32) (k0_off2_inb c 2))
      (kAt m ρ c (k0_off2 c 3#32) (k0_off2_inb c 2)) (wAt m ρ c)) rfl rfl rfl) $$ [HO Hs2 Hd2 HtS2 HtR2]
  · isplitr; · iexact HR
    isplitl [HO]; · iexact HO
    isplitl [Hs2]; · iexact Hs2
    isplitl [Hd2]; · iexact Hd2
    isplitl [HtS2] <;> iassumption
  iintro ⟨HcS2, HO⟩
  -- its own chunk, and the three that arrive
  iapply (wp_load 𝒱₀ (c : Thread nD τ) none Set.univ (m := xM) (Finset.subset_univ _)) $$ Hx; iintro Hx
  iapply (wp_load 𝒱₀ (c : Thread nD τ) none Set.univ (m := iM) (Finset.subset_univ _)) $$ Hi; iintro Hi
  iapply (wp_load 𝒱₀ (c : Thread nD τ) none Set.univ (m := kM) (Finset.subset_univ _)) $$ Hkeep; iintro Hkeep
  iapply (wp_load 𝒱₀ (c : Thread nD τ) none Set.univ (m := bM) (Finset.subset_univ _)) $$ Hwbf; iintro Hwbf
  iapply (wp_load 𝒱₀ (c : Thread nD τ) none Set.univ (m := bM) (Finset.subset_univ _)) $$ Hwbf; iintro Hwbf
  iapply (wp_load 𝒱₀ (c : Thread nD τ) none Set.univ (m := bM) (Finset.subset_univ _)) $$ Hwbf; iintro Hwbf
  iapply (wp_load 𝒱₀ (c : Thread nD τ) none Set.univ (m := bM) (Finset.subset_univ _)) $$ Hwbf; iintro Hwbf
  iapply (wp_wait_cell m ρ K c true 0 (recvPay m ρ c 0) (expect_recv m ρ c 0) (rest_recv m ρ c 0) rfl) $$ [HO HcR0 HaR0]
  · isplitr; · iexact HR
    isplitl [HcR0]; · iexact HcR0
    isplitl [HO] <;> iassumption
  iintro ⟨HO, HpR0, HzR0⟩
  unfold recvPay rRowAt
  iapply (wp_load_row rM c 0 _ rfl) $$ HpR0; iintro HpR0
  iapply (wp_wait_cell m ρ K c true 1 (recvPay m ρ c 1) (expect_recv m ρ c 1) (rest_recv m ρ c 1) rfl) $$ [HO HcR1 HaR1]
  · isplitr; · iexact HR
    isplitl [HcR1]; · iexact HcR1
    isplitl [HO] <;> iassumption
  iintro ⟨HO, HpR1, HzR1⟩
  unfold recvPay rRowAt
  iapply (wp_load_row rM c 1 _ rfl) $$ HpR1; iintro HpR1
  iapply (wp_wait_cell m ρ K c true 2 (recvPay m ρ c 2) (expect_recv m ρ c 2) (rest_recv m ρ c 2) rfl) $$ [HO HcR2 HaR2]
  · isplitr; · iexact HR
    isplitl [HcR2]; · iexact HcR2
    isplitl [HO] <;> iassumption
  iintro ⟨HO, HpR2, HzR2⟩
  unfold recvPay rRowAt
  iapply (wp_load_row rM c 2 _ rfl) $$ HpR2; iintro HpR2
  -- the result
  iapply (wp_load 𝒱₀ (c : Thread nD τ) none Set.univ (m := oM) (Finset.subset_univ _)) $$ Hout; iintro Hout
  iapply (wp_store 𝒱₀ (c : Thread nD τ) none Set.univ (m := oM) (r := Rect.unit (s := S128x512) ![0, 0] S128x512.size inb_S128x512_S128x512_0_0) (Mk := Finset.univ) (Finset.subset_univ _)) $$ Hout; iintro Hout
  rw [write_o]
  -- its own copies have been read
  iapply (wp_wait_cell m ρ K c false 0 (sendPay m ρ c 0) (expect_send m ρ c 0) (rest_send m ρ c 0) rfl) $$ [HO HcS0 HaS0]
  · isplitr; · iexact HR
    isplitl [HcS0]; · iexact HcS0
    isplitl [HO] <;> iassumption
  iintro ⟨HO, HpS0, HzS0⟩
  iapply (wp_wait_cell m ρ K c false 1 (sendPay m ρ c 1) (expect_send m ρ c 1) (rest_send m ρ c 1) rfl) $$ [HO HcS1 HaS1]
  · isplitr; · iexact HR
    isplitl [HcS1]; · iexact HcS1
    isplitl [HO] <;> iassumption
  iintro ⟨HO, HpS1, HzS1⟩
  iapply (wp_wait_cell m ρ K c false 2 (sendPay m ρ c 2) (expect_send m ρ c 2) (rest_send m ρ c 2) rfl) $$ [HO HcS2 HaS2]
  · isplitr; · iexact HR
    isplitl [HcS2]; · iexact HcS2
    isplitl [HO] <;> iassumption
  iintro ⟨HO, HpS2, HzS2⟩
  rw [wp_ret]; imodintro
  iapply Hk
  unfold bodyPost Φ₁ Dat.owesAt Pipeline.owesWithin zeros scratch
  simp only [Ring.bigSep_fin3]
  rw [show (dats m ρ 0 c).owed t₀.succ = 0 from rfl]
  isplitl [Hkeep Hwbf HpS0 HpS1 HpS2 HpR0 HpR1 HpR2 HzB HzR0 HzR1 HzR2 HzS0 HzS1 HzS2]
  · isplitl [Hkeep Hwbf HpS0 HpS1 HpS2 HpR0 HpR1 HpR2]
    · isplitl [Hkeep]; · unfold scr; iexists _; iexact Hkeep
      isplitl [Hwbf]; · unfold scr; iexists _; iexact Hwbf
      isplitl [HpS0 HpS1 HpS2]
      · unfold scr; iapply ((rows_join c sM).trans (any_whole c cc0_scratch2))
        isplitl [HpS0]; · unfold sendPay; iapply (anyRow_of c sM 0 _); iexact HpS0
        isplitl [HpS1]; · unfold sendPay; iapply (anyRow_of c sM 1 _); iexact HpS1
        unfold sendPay; iapply (anyRow_of c sM 2 _); iexact HpS2
      unfold scr; iapply ((rows_join c rM).trans (any_whole c cc0_scratch3))
      isplitl [HpR0]; · iapply (anyRow_of c rM 0 _); iexact HpR0
      isplitl [HpR1]; · iapply (anyRow_of c rM 1 _); iexact HpR1
      iapply (anyRow_of c rM 2 _); iexact HpR2
    isplitl [HzB]; · iexact HzB
    isplitl [HzS0 HzR0]
    · isplitl [HzS0]; · iexact HzS0
      iexact HzR0
    isplitl [HzS1 HzR1]
    · isplitl [HzS1]; · iexact HzS1
      iexact HzR1
    isplitl [HzS2]; · iexact HzS2
    iexact HzR2
  isplitl [HO]
  · unfold owing; icases HO with ⟨%W', HO⟩; iexists W'
    isplitr; · ipureintro; exact fun _ _ => Or.inl trivial
    iexact HO
  isplitl [Hx]
  · iexists _; isplitr; · (ipureintro; rfl)
    iexact Hx
  isplitl [Hi]
  · iexists _; isplitr; · (ipureintro; rfl)
    iexact Hi
  isplitl [Hw]
  · iexists _; isplitr; · (ipureintro; rfl)
    iexact Hw
  iexists _; isplitr
  · ipureintro; exact pay_own (word c) (xAt m ρ c (k0_off3 c) (k0_off3_inb c)) (iAt m ρ c (k0_off4 c) (k0_off4_inb c)) (kAt m ρ c (k0_off4 c) (k0_off4_inb c)) (wAt m ρ c) _ _ _
  iexact Hout

/-- What the pipeline hands the body at its one point. -/
def bodyPre' (c : Dev nD) : sProp 𝕄 :=
  iprop(Φ₀ m ρ c ∗ (dats m ρ 0 c).owesAt () t₀.castSucc
    ∗ (∃ d, stg c cc0_stg0_0 ((dats m ρ 0 c).before (0 : Fin 4) t₀ d))
    ∗ (∃ d, stg c cc0_stg1_0 ((dats m ρ 0 c).before (1 : Fin 4) t₀ d))
    ∗ (∃ d, stg c cc0_stg2_0 ((dats m ρ 0 c).before (2 : Fin 4) t₀ d))
    ∗ (∃ d, stg c cc0_stg3_0 ((dats m ρ 0 c).before (3 : Fin 4) t₀ d)))

set_option maxRecDepth 4000 in
/-- The body meets the pipeline's obligation on every device. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  show bodyPre' m ρ c ⊢ wp frame (wpE (defs₀ (F := F)) 𝒱₀ c none) Set.univ
    (cc0_body xM (Memref.isWhole_whole _) iM (Memref.isWhole_whole _) wM (Memref.isWhole_whole _) oM (Memref.isWhole_whole _)
      kM (Memref.isWhole_whole _) bM (Memref.isWhole_whole _) sM (Memref.isWhole_whole _) rM (Memref.isWhole_whole _)
      cc0_scratch4 cc0_scratch5) (fun _ => bodyPost m ρ c)
  unfold bodyPre' Φ₀ start
  iintro ⟨⟨⟨⟨%K, HR, Hlin⟩, Hcr, Hlev⟩, Hscr⟩, Hrest⟩
  iapply (sound_body m ρ K c fun _ => bodyPost m ρ c)
  unfold bodyPre
  isplitl
  · isplitl [HR Hlin Hcr Hlev]
    · isplitl [HR]; · iexact HR
      isplitl [Hlin]; · iexact Hlin
      isplitl [Hcr]; · iexact Hcr
      iexact Hlev
    isplitl [Hscr]; · iexact Hscr
    iexact Hrest
  · iintro H; iexact H

end Run

end Cert.Dispatch
-- ==== Proof.Run.lean ====
/-
The launch: the cells' invariants made, the duty tokens dealt to the devices that pay with them, the launch's credit
split, and the run of the whole program — every execution ends with each device's arrays at the pipeline's final
contents, the operand no window stages unchanged, and every counter at zero.
-/
module

public import proofs.«01_k».proof.Proof.Body
public import Idealize.ShloMosaic.Lib.Pipeline.Quiescent

@[expose] public section

noncomputable section

namespace Cert.Dispatch

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Names of cells and tokens -/

theorem ownSemFacts : Pipeline.OwnSemFacts cfg0.spec osem := by decide

/-- Every window is held whole. -/
theorem share_eq (c : Dev nD) (w : Fin cfg0.W) : (dats m ρ 0 c).share w = fullShare := by unfold Dat.share; split <;> rfl

theorem csem_injective : Function.Injective csem := by decide

/-- Distinct names are distinct cells. -/
theorem kcell_injective : Function.Injective (kcell : Dev nD × Option (Bool × Fin 3) → GSem nD τ sig) := fun x y h =>
  Prod.ext (Fin.ext (congrArg (fun g : GSem nD τ sig => g.1.1.val) h)) (csem_injective (congrArg Prod.snd h))

/-- The cells of the exchange, -/
def cells : Finset (GSem nD τ sig) := Finset.univ.map ⟨kcell, kcell_injective⟩

/-- The duty each name stands for: on the barrier the slot's own, on a send or a receive cell the one duty there is. -/
abbrev tokOf (x : Dev nD × Fin 3 × Option Bool) : GSem nD τ sig × ℕ × Fin 3 := match x.2.2 with
  | none => (barCell x.1, 0, x.2.1)
  | some b => (kcell (x.1, some (b, x.2.1)), 0, 0)

theorem tok_sem_injective :
    Function.Injective fun y : Fin 3 × Option Bool => match y.2 with
      | none => ((.reg barS : SemLoc sig), y.1)
      | some b => (osem (b, y.1), (0 : Fin 3)) := by decide

/-- Distinct names are distinct duties. -/
theorem tokOf_injective : Function.Injective (tokOf : Dev nD × Fin 3 × Option Bool → GSem nD τ sig × ℕ × Fin 3) := by
  rintro ⟨c, k, b⟩ ⟨c', k', b'⟩ h
  have h1 : c = c' := by
    have := congrArg (fun x : GSem nD τ sig × ℕ × Fin 3 => x.1.1.1) h
    cases b <;> cases b' <;> exact this
  have h2 : (k, b) = (k', b') := tok_sem_injective (by
    have := congrArg (fun x : GSem nD τ sig × ℕ × Fin 3 => (x.1.2, x.2.2)) h
    cases b <;> cases b' <;> exact this)
  rw [h1, h2]

/-- its tokens, -/
def tokens : Finset (GSem nD τ sig × ℕ × Fin 3) := Finset.univ.map ⟨tokOf, tokOf_injective⟩

/-- and the ghost state that the run starts from. -/
def u₀ : UU := (initOf (Pipeline.cells cfgs cellOf_inj) (Pipeline.launchToks cfgs cellOf_inj), initOf cells tokens)

/-! ## What the launch deals -/

/-- The tokens of slot `k` of a device's own cells. -/
def toks (c : Dev nD) (k : Fin 3) : sProp 𝕄 :=
  iprop(dutyTok ER (barCell c) 0 k ∗ dutyTok ER (sendCell c k) 0 0 ∗ dutyTok ER (recvCell c k) 0 0)
/-- The tokens of slot `k` a device pays with. -/
def pays (c : Dev nD) (k : Fin 3) : sProp 𝕄 :=
  iprop(dutyTok ER (barCell (hop k c)) 0 k ∗ dutyTok ER (recvCell (hop k c) k) 0 0 ∗ dutyTok ER (sendCell c k) 0 0)

/-- Each device's cells' states, its positions, its cells' tokens. -/
def G (c : Dev nD) : sProp 𝕄 :=
  iprop((bigSep Finset.univ fun k : Option (Bool × Fin 3) => roundState ER (sched m ρ) (kcell (c, k)) 0)
    ∗ (bigSep Finset.univ fun k : Option (Bool × Fin 3) => iprop(atPos ER (kcell (c, k)) 0 ∅ 0 ∗ reached ER (kcell (c, k)) 0))
    ∗ bigSep Finset.univ (toks c))

/-- After the global step: the records, and what stays with the device. -/
def G' (c : Dev nD) : sProp 𝕄 := iprop(∃ K, records m ρ K ∗ linear c)

omit [FloatOps F] in
/-- Six facts, two by two. -/
theorem in_pairs (P₀ P₁ P₂ P₃ P₄ P₅ : sProp 𝕄) : iprop(P₀ ∗ P₁ ∗ P₂ ∗ P₃ ∗ P₄ ∗ P₅) = iprop((P₀ ∗ P₁) ∗ (P₂ ∗ P₃) ∗ P₄ ∗ P₅) := by
  have h (A B C : sProp 𝕄) : iprop(A ∗ B ∗ C) = iprop((A ∗ B) ∗ C) := by
    have h1 : iprop(A ∗ B ∗ C) ⊢ iprop((A ∗ B) ∗ C) := sep_assoc.2
    have h2 : iprop((A ∗ B) ∗ C) ⊢ iprop(A ∗ B ∗ C) := sep_assoc.1
    exact Entails.antisymm h1 h2
  rw [h P₂, h P₀]

omit [FloatOps F] in
/-- A device's seven cells are its barrier's and, for each slot, the send's and the receive's. -/
theorem over_cells (Φ : Option (Bool × Fin 3) → sProp 𝕄) :
    bigSep Finset.univ Φ = iprop(Φ none ∗ bigSep Finset.univ fun k => iprop(Φ (some (false, k)) ∗ Φ (some (true, k)))) := by
  rw [Ring.bigSep_fin3, bigSep_univ_eq_bigSepL [none, some (false, 0), some (true, 0), some (false, 1), some (true, 1), some (false, 2), some (true, 2)]
    (by decide) (by decide) Φ]
  show iprop(Φ none ∗ Φ (some (false, 0)) ∗ Φ (some (true, 0)) ∗ Φ (some (false, 1)) ∗ Φ (some (true, 1)) ∗ Φ (some (false, 2)) ∗ Φ (some (true, 2))) = _
  rw [in_pairs (Φ (some (false, 0)))]

omit [FloatOps F] in
theorem over_toks (Φ : Option Bool → sProp 𝕄) : bigSep Finset.univ Φ = iprop(Φ none ∗ Φ (some false) ∗ Φ (some true)) :=
  bigSep_univ_eq_bigSepL [none, some false, some true] (by decide) (by decide) Φ

/-- The exchange's part of the launch element is every device's deal. -/
theorem fund : BI.own (ER (initOf cells tokens)) ⊢ (|==> bigSep Finset.univ (G m ρ) : sProp 𝕄) := by
  have hX (Φ : GSem nD τ sig → sProp 𝕄) :
      bigSep cells Φ = bigSep Finset.univ fun c : Dev nD => bigSep Finset.univ fun k : Option (Bool × Fin 3) => Φ (kcell (c, k)) := by
    unfold cells; rw [bigSep_map, bigSep_univ_prod]; rfl
  have hT : bigSep tokens (fun x => (dutyTok ER x.1 x.2.1 x.2.2 : sProp 𝕄)) = bigSep Finset.univ fun c : Dev nD => bigSep Finset.univ (toks c) := by
    unfold tokens; rw [bigSep_map, bigSep_univ_prod]
    refine bigSep_congr fun c _ => ?_
    rw [bigSep_univ_prod]
    exact bigSep_congr fun k _ => by unfold toks; rw [over_toks]; rfl
  iintro HX
  imod (Rounds.fund ER (sched m ρ) cells tokens) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step -/

omit [FloatOps F] in
/-- The kernel's own semaphores are the sends and the receives; -/
theorem ownSems0_eq (c : Dev nD) : (Pipeline.ownSems0 (Ix := Unit) (Name := ℕ) (U := UU) (Lvl := ℕ) (Val := Elt F) (τ := τ) osem c : sProp 𝕄)
    = bigSep Finset.univ fun k => iprop(semVal (sendCell c k) 0 ∗ semVal (recvCell c k) 0) := by
  rw [Ring.bigSep_fin3, Pipeline.ownSems0_eq_of_list c osem [(false, 0), (true, 0), (false, 1), (true, 1), (false, 2), (true, 2)] (by decide) (by decide)]
  show iprop(semVal (sendCell c 0) 0 ∗ semVal (recvCell c 0) 0 ∗ semVal (sendCell c 1) 0 ∗ semVal (recvCell c 1) 0 ∗ semVal (sendCell c 2) 0 ∗ semVal (recvCell c 2) 0) = _
  rw [in_pairs]

omit [FloatOps F] in
/-- the barrier is the one semaphore that outlives the kernel; -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- together they are the device's cells. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Option (Bool × Fin 3) => semVal (kcell (c, k)) 0 : sProp 𝕄) := by
  rw [ownSems0_eq, unscopedSems0_eq, over_cells]
  iintro ⟨HO, HB⟩
  isplitl [HB]; · iexact HB
  iexact HO

/-- A device's cells put under invariants. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ bigSep Finset.univ (toks c)) := by
  have hinv : iprop((bigSep Finset.univ fun k : Option (Bool × Fin 3) => semVal (kcell (c, k)) 0)
        ∗ bigSep Finset.univ fun k : Option (Bool × Fin 3) => roundState ER (sched m ρ) (kcell (c, k)) 0)
      ⊢ (|={Set.univ}=> bigSep Finset.univ fun k => iprop(∃ κ : ℕ, cellInv ER (sched m ρ) κ (kcell (c, k))) : sProp 𝕄) := by
    rw [← bigSep_sep']
    exact (bigSep_mono fun k _ => (Rounds.body_intro ER (sched m ρ) (kcell (c, k))).trans inv_alloc).trans (bigSep_fupd _ _)
  unfold G
  iintro ⟨Hos, Hus, Hst, Hat, Htok⟩
  ihave Hv := (sems0_eq (F := F) c) $$ [Hos Hus]
  · isplitl [Hos] <;> iassumption
  imod hinv $$ [Hv Hst] with Hinv
  · isplitl [Hv] <;> iassumption
  imodintro
  isplitl [Hinv]; · iexact Hinv
  isplitl [Hat]; · iexact Hat
  iexact Htok

/-- Devices and slots, each device moved by its slot's distance. -/
def spin : Dev nD × Fin 3 ≃ Dev nD × Fin 3 :=
  ⟨fun x => (hop x.2 x.1, x.2), fun x => (hop x.2.rev x.1, x.2), fun x => by simp only [hop_rev_hop], fun x => by simp only [hop_hop_rev]⟩

omit [FloatOps F] in
/-- What is dealt per device and slot may be dealt per device that far before. -/
theorem around (Φ : Dev nD → Fin 3 → sProp 𝕄) :
    (bigSep Finset.univ fun c : Dev nD => bigSep Finset.univ (Φ c)) = bigSep Finset.univ fun c : Dev nD => bigSep Finset.univ fun k => Φ (hop k c) k := by
  rw [← bigSep_univ_prod fun x : Dev nD × Fin 3 => Φ x.1 x.2, bigSep_univ_equiv spin, bigSep_univ_prod]; rfl

omit [FloatOps F] in
/-- Every cell's tokens, dealt to the devices that pay them. -/
theorem toks_around : (bigSep Finset.univ fun c : Dev nD => bigSep Finset.univ fun k => (toks c k : sProp 𝕄))
    ⊢ bigSep Finset.univ fun c : Dev nD => bigSep Finset.univ fun k => pays c k := by
  unfold toks pays
  simp only [bigSep_sep']
  rw [around fun c k => (dutyTok ER (barCell c) 0 k : sProp 𝕄), around fun c k => (dutyTok ER (recvCell c k) 0 0 : sProp 𝕄)]
  iintro ⟨H1, H2, H3⟩
  isplitl [H1]; · iexact H1
  isplitl [H3] <;> iassumption

omit [FloatOps F] in
/-- A device's positions and the tokens it pays with are what stays with it. -/
theorem linear_intro (c : Dev nD) :
    iprop((bigSep Finset.univ fun k : Option (Bool × Fin 3) => (atPos ER (kcell (c, k)) 0 ∅ 0 : sProp 𝕄)) ∗ bigSep Finset.univ fun k => pays c k) ⊢ linear c := by
  have hslot : iprop((bigSep Finset.univ fun k => iprop(atPos ER (sendCell c k) 0 ∅ 0 ∗ atPos ER (recvCell c k) 0 ∅ 0 : sProp 𝕄))
      ∗ bigSep Finset.univ fun k => pays c k) ⊢ bigSep Finset.univ (slot c) := by
    rw [← bigSep_sep']
    refine bigSep_mono fun k _ => ?_
    show iprop((atPos ER (sendCell c k) 0 ∅ 0 ∗ atPos ER (recvCell c k) 0 ∅ 0) ∗ pays c k) ⊢ slot c k
    unfold pays slot
    iintro ⟨⟨H1, H2⟩, H⟩
    isplitl [H1]; · iexact H1
    isplitl [H2]; · iexact H2
    iexact H
  rw [over_cells]
  unfold linear
  iintro ⟨⟨H, H1⟩, H2⟩
  isplitl [H]; · iexact H
  iapply hslot
  isplitl [H1]; · iexact H1
  iexact H2

omit [FloatOps F] in
/-- A persistent record goes with every member of a family. -/
theorem with_record {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem G'_intro (K) (c : Dev nD) : iprop(records m ρ K ∗ linear c) ⊢ G' m ρ c := by
  unfold G'; iintro H; iexists K; iexact H

/-- All devices' invariants, positions and tokens regrouped into what each device starts with. -/
theorem regroup :
    (bigSep Finset.univ fun c : Dev nD => iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ bigSep Finset.univ (toks c)) : sProp 𝕄)
      ⊢ bigSep Finset.univ (G' m ρ) := by
  rw [bigSep_sep', bigSep_sep', ← bigSep_univ_prod (fun ck : Dev nD × Option (Bool × Fin 3) => iprop(∃ κ : ℕ, cellInv ER (sched m ρ) κ (kcell ck))),
    bigSep_congr (s := Finset.univ) (fun (c : Dev nD) _ => bigSep_sep' Finset.univ
      (fun k : Option (Bool × Fin 3) => (atPos ER (kcell (c, k)) 0 ∅ 0 : sProp 𝕄)) (fun k => reached ER (kcell (c, k)) 0)),
    bigSep_sep', ← bigSep_univ_prod (fun ck : Dev nD × Option (Bool × Fin 3) => (reached ER (kcell ck) 0 : sProp 𝕄))]
  iintro ⟨HI, ⟨Hat, #HR⟩, Htok⟩
  ihave HK := (BI.bigSep_exists_pi Finset.univ
    (fun (ck : Dev nD × Option (Bool × Fin 3)) (κ : ℕ) => (cellInv ER (sched m ρ) κ (kcell ck) : sProp 𝕄))) $$ HI
  icases HK with ⟨%K, #HI⟩
  ihave Htk := (toks_around (F := F)) $$ Htok
  iapply (with_record (R := records m ρ K) fun c _ => G'_intro m ρ K c)
  isplitr
  · unfold records; isplitl; · iexact HI
    iexact HR
  · iapply ((Entails.of_eq (bigSep_sep' Finset.univ (fun c : Dev nD => bigSep Finset.univ fun k : Option (Bool × Fin 3) => (atPos ER (kcell (c, k)) 0 ∅ 0 : sProp 𝕄))
        (fun c => bigSep Finset.univ fun k => pays c k)).symm).trans (bigSep_mono fun c _ => linear_intro (F := F) c))
    isplitl [Hat]; · iexact Hat
    iexact Htk

/-- The global step: all devices' semaphores and deals into what each device starts with. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch's credit -/

omit [FloatOps F] in
/-- What all devices owe slot `k`'s receive cells is each device's row; -/
theorem cred_row (c : Dev nD) (k : Fin 3) : (Pipeline.launchCred (fun d => owedRow d k) c : sProp 𝕄) ⊢ cred (tallyAt (recvCell c k) () N) :=
  Pipeline.launchCred_tallyAt (.dma (recvS k)) (hop k) (hop k.rev) (hop_hop_rev k) (hop_rev_hop k) () N c
omit [FloatOps F] in
/-- what they owe the barriers by slot `k` is each device's unit. -/
theorem cred_bar (c : Dev nD) (k : Fin 3) : (Pipeline.launchCred (fun d => owedBar d k) c : sProp 𝕄) ⊢ cred (tallyAt (barCell c) () 1) :=
  Pipeline.launchCred_tallyAt (.reg barS) (hop k) (hop k.rev) (hop_hop_rev k) (hop_rev_hop k) () 1 c

omit [FloatOps F] in
/-- A barrier wait's three units, one per slot. -/
theorem three_units (c : Dev nD) :
    iprop(cred (tallyAt (barCell c) () 1) ∗ cred (tallyAt (barCell c) () 1) ∗ cred (tallyAt (barCell c) () 1)) ⊢ (cred (tallyAt (barCell c) () 3) : sProp 𝕄) := by
  rw [show (tallyAt (barCell c) () 3 : CellTallies nD τ sig Unit) = tallyAt (barCell c) () 1 + (tallyAt (barCell c) () 1 + tallyAt (barCell c) () 1) by
    rw [tallyAt_add, tallyAt_add]]
  exact (sep_mono_right (cred_add _ _).2).trans (cred_add _ _).2

omit [FloatOps F] in
/-- A device's launch credit is what the others owe it. -/
theorem creds (c : Dev nD) : (Pipeline.launchCred O₀ c : sProp 𝕄) ⊢ credits c := by
  rw [show (O₀ : Dev nD → CellTallies nD τ sig Unit)
      = fun d => 0 + owedRow d 2 + owedRow d 1 + owedRow d 0 + owedBar d 2 + owedBar d 1 + owedBar d 0 from funext fun d => by unfold O₀ owedRows; rfl,
    Pipeline.launchCred_add, Pipeline.launchCred_add, Pipeline.launchCred_add, Pipeline.launchCred_add, Pipeline.launchCred_add, Pipeline.launchCred_add]
  unfold credits
  rw [Ring.bigSep_fin3]
  iintro ⟨⟨⟨⟨⟨⟨-, R2⟩, R1⟩, R0⟩, B2⟩, B1⟩, B0⟩
  isplitl [B0 B1 B2]
  · iapply (three_units (F := F) c)
    isplitl [B0]; · iapply (cred_bar (F := F) c 0); iexact B0
    isplitl [B1]; · iapply (cred_bar (F := F) c 1); iexact B1
    iapply (cred_bar (F := F) c 2); iexact B2
  isplitl [R0]; · iapply (cred_row (F := F) c 0); iexact R0
  isplitl [R1]; · iapply (cred_row (F := F) c 1); iexact R1
  iapply (cred_row (F := F) c 2); iexact R2

/-! ## The launch theorem's side conditions -/

/-- The operand the kernel stages in no window. -/
def rest (c : Dev nD) : sProp 𝕄 := (((c : Thread nD τ).loc main_arg1) ↦{fullShare} m ((c : Thread nD τ).loc main_arg1))

/-- The launch gives each device what its body starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ rest m c) := by
  have hrest : (Pipeline.unscopedRestP Pipeline.Prefetch.none cfg0.spec c (fun b => m ((c : Thread nD τ).loc b)) : sProp 𝕄) ⊢ rest m c :=
    Entails.of_eq ((Pipeline.unscopedRestP_none _ _ _).trans (unscopedRest0_eq c _))
  iintro ⟨Hre, Hlev, Hcr, -, HG⟩
  ihave Hre' := hrest $$ Hre
  ihave Hc := (creds (F := F) c) $$ Hcr
  imodintro
  unfold start G'
  isplitr [Hre']
  · isplitl [HG]; · iexact HG
    isplitl [Hc]; · iexact Hc
    iexact Hlev
  · iexact Hre'

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch scr
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ scratch scr zeros
  iintro ⟨Hr, HB, HO⟩
  isplitl [HB]; · iexact HB
  isplitl [HO]; · iexact HO
  iexact Hr

/-- The levels allow the pipeline's own waits. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

omit [FloatOps F] in
/-- The operand no window stages is read back as it was. -/
theorem rest_read (c : Dev nD) (s' : Phys nD τ sig (Elt F)) :
    iprop(rest m c ∗ SI s') ⊢ (⌜s'.mem.mem ((c : Thread nD τ).loc main_arg1) = m ((c : Thread nD τ).loc main_arg1)⌝ ∗ SI s' : sProp 𝕄) := by
  unfold rest
  iintro ⟨H, HSI⟩
  icombine H HSI gives %h
  isplitr; · ipureintro; exact Buf.eq_of_forall_mem_univ h
  iexact HSI

/-! ## The run -/

/-- What a run ends in: each window's array at the pipeline's final contents, the other operand unchanged. -/
def Final : PUnit × MemSt nD τ sig (Elt F) → Prop := fun r => ∀ c : Dev nD,
  (∀ w : Fin cfg0.W, r.2.mem ((cfg0.win w).arr.view.loc (c : Thread nD τ)) = (dats m ρ 0 c).arrAt w cfg0.N)
    ∧ r.2.mem ((c : Thread nD τ).loc main_arg1) = m ((c : Thread nD τ).loc main_arg1)

set_option maxRecDepth 8000 in
/-- Every weakly fair execution of the program on the four devices, from any memory with zero counters and for any float
    values, terminates, and ends with the arrays final and every counter at zero. -/
theorem run_main : θ_run defs (onTc (τ := τ) (main (F := F))) (s₀ m ρ) (fun r => Final m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund m ρ) $$ HX with HG
      imodintro
      isplitl [HP] <;> iassumption)
    (hglob := glob m ρ)
    (hA := fun _ _ => rfl) (hpf := fun _ k => k.elim0)
    (X := start m ρ) (Y := fun c => unscopedSems0 c) (Z := rest m)
    (hX := start_intro m ρ) (hin := phi0_intro m ρ) (hout := phi1_exit m ρ)
    (QY := fun c s => s.mem ((c : Thread nD τ).loc main_arg1) = m ((c : Thread nD τ).loc main_arg1)
      ∧ ∀ sm : SemLoc sig, sm.isScoped .tc = false → s.sem ((c.tc : Thread nD τ), sm) = 0)
    (hY := fun c s' => by
      iintro ⟨Hu, Hr, HSI⟩
      ihave H := (rest_read m c s') $$ [Hr HSI]
      · isplitl [Hr] <;> iassumption
      icases H with ⟨%hr, HSI⟩
      ihave %hu := (tcUnscoped_read c s') $$ [Hu HSI]
      · isplitl [Hu] <;> iassumption
      imodintro
      isplitr; · ipureintro; exact ⟨hr, hu⟩
      iexact HSI)
    (hQ := fun _ h hs => ⟨fun c => ⟨fun w => (h c).1 w, (h c).2.2.1⟩, sem_eq_zero hs fun c => (h c).2.2.2⟩)

/-- Staged inputs end as they began. -/
theorem arrAt_input (c : Dev nD) (w : Fin cfg0.W) (hw : w ≠ 3) : (dats m ρ 0 c).arrAt w cfg0.N = m ((cfg0.win w).arr.view.loc (c : Thread nD τ)) :=
  (dats m ρ 0 c).arrAt_in w (by revert w; decide) _

/-- Every run ends with the four operands unchanged and every counter at zero, the result at the pipeline's final contents. -/
theorem run_args : θ_run defs (onTc (τ := τ) (main (F := F))) (s₀ m ρ) (fun r =>
    (∀ c : Dev nD, (r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
      ∧ r.2.mem ((c.tc : Thread nD τ).loc main_v1) = (dats m ρ 0 c).arrAt 3 cfg0.N)
    ∧ r.2.sem = fun _ => 0) :=
  (θ_run defs _ _).mono (fun _ h => ⟨fun c =>
    ⟨⟨((h.1 c).1 0).trans (arrAt_input m ρ c 0 (by decide)), (h.1 c).2, ((h.1 c).1 1).trans (arrAt_input m ρ c 1 (by decide)),
      ((h.1 c).1 2).trans (arrAt_input m ρ c 2 (by decide))⟩, (h.1 c).1 3⟩, h.2⟩) (run_main m ρ)

end Cert.Dispatch
-- ==== Proof.Model.lean ====
/-
The result as plain mathematics, at extended reals: token `t` is kept when at most 25 tokens up to and including it chose
its expert; each expert's share of a kept token's row is the row times the expert's matrix if the token chose it, and
zero otherwise; the row of the result is the sum of the sixteen shares.
-/
module

public import Idealize.ShloMosaic.Lib.Pointwise
public import Idealize.ShloMosaic.Lib.StableHlo.Predicate

@[expose] public section

noncomputable section

namespace Cert.Dispatch

open Idealize.ShloMosaic Idealize.ShloMosaic.StableHlo.Predicate

/-- The tokens' rows. -/
abbrev Rows : Type := (⟨2, ![512, 256]⟩ : Shape).Idx → EReal
/-- The expert each token chose. -/
abbrev Experts : Type := (⟨2, ![512, 1]⟩ : Shape).Idx → BitVec 32
/-- The experts' matrices. -/
abbrev Weights : Type := (⟨3, ![16, 256, 512]⟩ : Shape).Idx → EReal

/-- How many tokens up to and including `t` chose `t`'s expert: at least one, at most all. -/
def place (e : Experts) (t : Fin 512) : ℕ := (Finset.univ.filter fun s : Fin 512 => e (ix2 t 0) = e (ix2 s 0) ∧ s ≤ t).card

/-- A token counts itself, -/
theorem place_pos (e : Experts) (t : Fin 512) : 1 ≤ place e t :=
  Finset.card_pos.mpr ⟨t, Finset.mem_filter.mpr ⟨Finset.mem_univ t, rfl, le_rfl⟩⟩

/-- and there are 512 tokens. -/
theorem place_le (e : Experts) (t : Fin 512) : place e t ≤ 512 := (Finset.card_filter_le _ _).trans_eq (Finset.card_fin 512)

/-- Token `t`'s row times expert `n`'s matrix, at column `h`; -/
def prod (x : Rows) (w : Weights) (n : Fin 16) (t h : Fin 512) : EReal := ∑ k : Fin 256, x (ix2 t k) * w (ix3 n k h)

/-- expert `n`'s share of the result there; -/
def share (x : Rows) (e : Experts) (w : Weights) (n : Fin 16) (t h : Fin 512) : EReal :=
  if e (ix2 t 0) = BitVec.ofNat 32 n.val ∧ place e t ≤ 25 then prod x w n t h else 0

/-- the result there. -/
def model (x : Rows) (e : Experts) (w : Weights) (t h : Fin 512) : EReal := ∑ n : Fin 16, share x e w n t h

/-- Words below 16 tell experts apart. -/
theorem expert_inj {a b : Fin 16} (h : BitVec.ofNat 32 a.val = BitVec.ofNat 32 b.val) : a = b := by
  have h' := congrArg BitVec.toNat h
  simp only [BitVec.toNat_ofNat] at h'
  exact Fin.ext (by omega)

/-- A token of expert `n` has that share alone; -/
theorem model_of_eq (x : Rows) (e : Experts) (w : Weights) (n : Fin 16) (t h : Fin 512) (hn : e (ix2 t 0) = BitVec.ofNat 32 n.val) :
    model x e w t h = if place e t ≤ 25 then prod x w n t h else 0 := by
  refine (Finset.sum_eq_single n (fun b _ hb => ?_) fun h' => absurd (Finset.mem_univ n) h').trans (if_congr (and_iff_right hn) rfl rfl)
  exact if_neg fun h' => hb (expert_inj (h'.1.symm.trans hn))

/-- and a token of no expert none. -/
theorem model_of_ne (x : Rows) (e : Experts) (w : Weights) (t h : Fin 512) (hn : ∀ n : Fin 16, e (ix2 t 0) ≠ BitVec.ofNat 32 n.val) :
    model x e w t h = 0 :=
  Finset.sum_eq_zero fun n _ => if_neg fun h' => hn n h'.1

/-- The shares by device: four devices of four experts each. -/
theorem model_by_device (x : Rows) (e : Experts) (w : Weights) (t h : Fin 512) :
    model x e w t h = ∑ d : Fin 4, ∑ l : Fin 4, share x e w ⟨4 * d.val + l.val, by omega⟩ t h := by
  unfold model
  rw [← (finProdFinEquiv (m := 4) (n := 4)).sum_comp, Fintype.sum_prod_type]
  refine Finset.sum_congr rfl fun d _ => Finset.sum_congr rfl fun l _ => ?_
  exact congrArg (fun n => share x e w n t h) (Fin.ext (by simp [finProdFinEquiv]; omega))

/-- A one-bit word widened and read as a number is 1 or 0. -/
theorem bit_num (b : BitVec 1) : FloatOps.sitofp (F := Ideal) .f32 (BitVec.setWidth 32 b) = if b = 1#1 then (1 : EReal) else 0 := by
  rcases BitVec.eq_zero_or_eq_one b with rfl | rfl
  · show (((BitVec.setWidth 32 0#1).toInt : ℝ) : EReal) = _
    rw [if_neg (by decide), show (BitVec.setWidth 32 0#1).toInt = 0 by decide]; simp
  · show (((BitVec.setWidth 32 1#1).toInt : ℝ) : EReal) = _
    rw [if_pos rfl, show (BitVec.setWidth 32 1#1).toInt = 1 by decide]; simp

/-- The conjunction of two bits. -/
theorem and_bit (a b : BitVec 1) : IntOp.andi a b = 1#1 ↔ a = 1#1 ∧ b = 1#1 := by
  revert a b; decide

/-- The pattern of 25. -/
theorem ofBits_25 : Ideal.ofBits .f32 0x41C80000#32 = ((25 : ℝ) : EReal) := by
  simp [Ideal.ofBits, Ideal.ieee, -EReal.coe_mul]; norm_num

end Cert.Dispatch

end
-- ==== Proof.Chunk.lean ====
/-
The kernel's result at an index: what the staging buffers hold is the arrays; the keep column is 1 on kept tokens and 0
on the others; a device's term for one of its experts is that expert's share of each row of the chunk; and the four
devices' terms, added in the order each device receives them, are the sixteen shares.
-/
module

public import proofs.«01_k».proof.Proof.Run
public import proofs.«01_k».proof.Proof.Model
public import Idealize.ShloMosaic.Lib.Layout
public import Idealize.ShloMosaic.Lib.Pipeline.ValueKit

@[expose] public section

noncomputable section

namespace Cert.Dispatch

open Cert.KernelIdeal Cert.KernelIdeal.Gen
open Idealize.ShloMosaic
open Idealize.ShloMosaic.TcCoe
open Idealize.ShloMosaic.StableHlo.Predicate

/-! ## One term of one chunk -/

/-- A term at row `r` and column `h`: the row, kept or not and gated by its expert, times the expert's matrix. -/
theorem term_apply (v l : BitVec 32) (x : Vec Ideal S128x256 .f32) (e : Vec Ideal S128x1 .i32) (k : Vec Ideal S128x1 .f32)
    (w : Vec Ideal S1x256x512 .bf16) (r : Fin 128) (h : Fin 512) :
    term v l x e k w (ix2 r h)
      = ∑ j : Fin 256, x (ix2 r j) * (k (ix2 r 0) * if e (ix2 r 0) = Scalar.addi (Scalar.muli v 4#32) l then 1 else 0) * w (ix3 0 j h) := by
  pointwise [term]
  simp only [bit_num, cmpi_eq_iff]

/-- A factor that is 1 or 0, inside a sum of products. -/
theorem sum_gated {K : ℕ} (p : Prop) [Decidable p] (f g : Fin K → EReal) :
    (∑ j, f j * (if p then 1 else 0) * g j) = if p then ∑ j, f j * g j else 0 := by
  split <;> simp

/-! ## The keep column -/

/-- The count of a token is its place. -/
theorem pay1_apply (e : Vec Ideal S512x1 .i32) (t : Fin 512) : k0_pay1 (F := Ideal) e e (ix1 t) = (place e t : EReal) := by
  pointwise [k0_pay1]
  simp only [bit_num, and_bit, cmpi_eq_iff]
  have hs : ∀ s : Fin 512, IntOp.cmpi .sle (BitVec.ofNat 32 s.val) (BitVec.ofNat 32 t.val) = 1#1 ↔ s ≤ t := fun s =>
    sle_ofNat_iff _ _ (by omega) (by omega)
  simp only [hs]
  exact Finset.sum_boole _ _

/-- A count of at most 25 keeps the token. -/
theorem pay2_apply (v : FVec Ideal S512 .f32) (t : Fin 512) :
    k0_pay2 (F := Ideal) v (ix2 t 0) = if v (ix1 t) ≤ ((25 : ℝ) : EReal) then 1 else 0 := by
  pointwise [k0_pay2]
  rw [bit_num, ofBits_25]
  exact if_congr ((ofBool_eq_one_iff _).trans decide_eq_true_iff) rfl rfl

/-- The keep column is 1 on the tokens whose place is at most 25, and 0 on the others. -/
theorem keep_apply (e : Vec Ideal S512x1 .i32) (t : Fin 512) :
    k0_pay2 (F := Ideal) (k0_pay1 e e) (ix2 t 0) = if place e t ≤ 25 then 1 else 0 := by
  rw [pay2_apply, pay1_apply]
  refine if_congr ?_ rfl rfl
  rw [show ((25 : ℝ) : EReal) = ((25 : ℕ) : EReal) from rfl]
  exact Nat.cast_le

/-- The matrices' copy is the matrices. -/
theorem pay3_apply (w : Vec Ideal S4x256x512 .f32) (l : Fin 4) (j : Fin 256) (h : Fin 512) : k0_pay3 (F := Ideal) w (ix3 l j h) = w (ix3 l j h) := by
  pointwise [k0_pay3]

/-! ## The staged arrays -/

section Staged
variable (m : (ℓ : Loc nD τ sig) → Buf (Elt Ideal) ℓ) (ρ : Dev nD → PrngReg) (c : Dev nD)

/-- The staged rows are the rows, -/
theorem xstg_eq : xstg m ρ c = m ((c : Thread nD τ).loc main_arg0) := by
  funext i
  refine congrArg (m ((c : Thread nD τ).loc main_arg0)) (funext fun a => Fin.ext ?_)
  blk_simp
  rw [(by decide : ∀ a, win0_0.index (0 : Fin 1) a = 0) a, Nat.zero_mul, Nat.zero_add]

/-- the staged experts the experts, -/
theorem istg_eq : istg m ρ c = m ((c : Thread nD τ).loc main_arg2) := by
  funext i
  refine congrArg (m ((c : Thread nD τ).loc main_arg2)) (funext fun a => Fin.ext ?_)
  blk_simp
  rw [(by decide : ∀ a, win0_1.index (0 : Fin 1) a = 0) a, Nat.zero_mul, Nat.zero_add]

/-- and the staged matrices the device's matrices. -/
theorem wstg_eq : wstg m ρ c = m ((c : Thread nD τ).loc main_arg3) := by
  funext i
  refine congrArg (m ((c : Thread nD τ).loc main_arg3)) (funext fun a => Fin.ext ?_)
  blk_simp
  rw [(by decide : ∀ a, win0_2.index (0 : Fin 1) a = 0) a, Nat.zero_mul, Nat.zero_add]

/-- A chunk's row `r` is the array's row `o + r`, `o` the chunk's first. -/
theorem xAt_apply (off : Fin 2 → ℕ) (h) (o : ℕ) (ho : off = ![o, 0]) (r : Fin 128) (k : Fin 256) (hr : o + r.val < 512) :
    xAt m ρ c off h (ix2 r k) = xstg m ρ c (ix2 ⟨o + r.val, hr⟩ k) := by
  subst ho
  refine congrArg (xstg m ρ c) ?_
  pointwise
  rfl

/-- The same of a chunk's experts, -/
theorem iAt_apply (off : Fin 2 → ℕ) (h) (o : ℕ) (ho : off = ![o, 0]) (r : Fin 128) (hr : o + r.val < 512) :
    iAt m ρ c off h (ix2 r 0) = istg m ρ c (ix2 ⟨o + r.val, hr⟩ 0) := by
  subst ho
  refine congrArg (istg m ρ c) ?_
  pointwise
  rfl

/-- and of its part of the keep column. -/
theorem kAt_apply (off : Fin 2 → ℕ) (h) (o : ℕ) (ho : off = ![o, 0]) (r : Fin 128) (hr : o + r.val < 512) :
    kAt m ρ c off h (ix2 r 0) = kept m ρ c (ix2 ⟨o + r.val, hr⟩ 0) := by
  subst ho
  refine congrArg (kept m ρ c) ?_
  pointwise
  rfl

/-- Matrix `l` of the device's four. -/
theorem wAt_apply (l : Fin 4) (k : Fin 256) (h : Fin 512) : wAt m ρ c l (ix3 0 k h) = wbf m ρ c (ix3 l k h) := by
  refine congrArg (wbf m ρ c) ?_
  pointwise
  rfl

/-- The result array ends holding what the body left in its staging buffer. -/
theorem final_eq : (dats m ρ 0 c).arrAt 3 cfg0.N = result m ρ c :=
  funext fun i => ((dats m ρ 0 c).arrAt_emb_eq_after_last 3 t₀ (by decide +kernel) i).trans rfl

end Staged

/-! ## The four devices' terms -/

/-- The experts' matrices split over the devices, four each. -/
theorem tiles_w : Layout.Tiles ⟨3, ![4, 256, 512]⟩ ⟨3, ![16, 256, 512]⟩ 0 4 := by decide

/-- Expert `l` of device `c`'s four. -/
abbrev expertOf (c : Fin 4) (l : Fin 4) : Fin 16 := ⟨4 * c.val + l.val, by omega⟩

/-- The number the kernel compares with, as a word: device `c`'s expert `l` is expert `4 c + l`. -/
theorem word_eq (c : Dev nD) (l : Fin 4) : Scalar.addi (Scalar.muli (word c) 4#32) (BitVec.ofNat 32 l.val) = BitVec.ofNat 32 (4 * c.val + l.val) := by
  revert c l; decide

/-- From a device on, around the four: the order a device adds their contributions in does not matter. -/
theorem sum_around (f : Fin 4 → EReal) (c : Dev nD) :
    f c + f (hop (0 : Fin 3).rev c) + f (hop (1 : Fin 3).rev c) + f (hop (2 : Fin 3).rev c) = ∑ d, f d := by
  rw [Fin.sum_univ_four]
  revert c
  show ∀ c : Fin 4, _
  intro c
  match c with
  | 0 => show f 0 + f 3 + f 2 + f 1 = _; ac_rfl
  | 1 => show f 1 + f 0 + f 3 + f 2 = _; ac_rfl
  | 2 => show f 2 + f 1 + f 0 + f 3 = _; ac_rfl
  | 3 => show f 3 + f 2 + f 1 + f 0 = _; ac_rfl

section Parts
variable (m : (ℓ : Loc nD τ sig) → Buf (Elt Ideal) ℓ) (ρ : Dev nD → PrngReg)
variable (x : Rows) (e : Experts) (w : Weights)
  (hx : ∀ c : Dev nD, m ((c : Thread nD τ).loc main_arg0) = x) (he : ∀ c : Dev nD, m ((c : Thread nD τ).loc main_arg2) = e)
  (hw : ∀ c : Dev nD, m ((c : Thread nD τ).loc main_arg3) = Layout.block ⟨3, ![4, 256, 512]⟩ ⟨3, ![16, 256, 512]⟩ 0 4 c w tiles_w)
include hx he hw

/-- A device's term for its expert `l`, at row `r` of the chunk that starts at row `o`. -/
theorem term_share (c : Dev nD) (l : Fin 4) (off off' : Fin 2 → ℕ) (h h' h'') (o : ℕ) (ho : off = ![o, 0]) (ho' : off' = ![o, 0])
    (r : Fin 128) (hr : o + r.val < 512) (j : Fin 512) :
    term (word c) (BitVec.ofNat 32 l.val) (xAt m ρ c off h) (iAt m ρ c off' h') (kAt m ρ c off' h'') (wAt m ρ c l) (ix2 r j)
      = share x e w (expertOf c l) ⟨o + r.val, hr⟩ j := by
  rw [term_apply]
  simp only [xAt_apply m ρ c off h o ho _ _ hr, iAt_apply m ρ c off' h' o ho' _ hr, kAt_apply m ρ c off' h'' o ho' _ hr, wAt_apply, word_eq]
  rw [show kept m ρ c = k0_pay2 (k0_pay1 (istg m ρ c) (istg m ρ c)) from rfl, xstg_eq, istg_eq, hx, he]
  simp only [keep_apply, pay3_apply, wstg_eq, hw, Layout.block_apply]
  have hwi : ∀ k : Fin 256, w (tiles_w.idx c (ix3 l k j))
      = w (ix3 (expertOf c l) k j) := fun k => by
    refine congrArg w (funext fun a => Fin.ext ?_)
    match a with
    | 0 => show c.val * 4 + l.val = 4 * c.val + l.val; omega
    | 1 => rfl
    | 2 => rfl
  simp only [hwi, mul_ite, mul_one, mul_zero, ← ite_and]
  have hp : ∀ k : Fin 256, (if e (ix2 ⟨o + r.val, hr⟩ 0) = BitVec.ofNat 32 (4 * c.val + l.val) ∧ place e ⟨o + r.val, hr⟩ ≤ 25 then x (ix2 ⟨o + r.val, hr⟩ k) else 0)
      = x (ix2 ⟨o + r.val, hr⟩ k) * (if e (ix2 ⟨o + r.val, hr⟩ 0) = BitVec.ofNat 32 (4 * c.val + l.val) ∧ place e ⟨o + r.val, hr⟩ ≤ 25 then 1 else 0) := fun k => by
    split <;> simp
  simp only [hp]
  exact sum_gated _ _ _

/-- A device's four terms. -/
theorem part_share (c : Dev nD) (off off' : Fin 2 → ℕ) (h h' h'') (o : ℕ) (ho : off = ![o, 0]) (ho' : off' = ![o, 0])
    (r : Fin 128) (hr : o + r.val < 512) (j : Fin 512) :
    part (word c) (xAt m ρ c off h) (iAt m ρ c off' h') (kAt m ρ c off' h'') (wAt m ρ c) (ix2 r j)
      = ∑ l : Fin 4, share x e w (expertOf c l) ⟨o + r.val, hr⟩ j := by
  rw [Fin.sum_univ_four]
  simp only [← term_share m ρ x e w hx he hw c _ off off' h h' h'' o ho ho' r hr j]
  pointwise [part]

/-- What a device receives in slot `k`, at row `r` of its own chunk; -/
theorem got_apply (c : Dev nD) (k : Fin 3) (r : Fin 128) (hr : 128 * c.val + r.val < 512) (j : Fin 512) :
    got m ρ c k (ix2 r j) = ∑ l : Fin 4, share x e w (expertOf (hop k.rev c) l) ⟨128 * c.val + r.val, hr⟩ j := by
  have hrow : 128 * (((hop k.rev c).val + k.val + 1) % 4) = 128 * c.val := congrArg (fun d : Dev nD => 128 * d.val) (hop_hop_rev k c)
  refine Eq.trans ?_ (part_share m ρ x e w hx he hw (hop k.rev c) _ _ (k0_off1_inb _ k) (k0_off2_inb _ k) (k0_off2_inb _ k) (128 * c.val)
    ((k0_off1_eq _ k).trans (by rw [hrow])) ((k0_off2_eq _ k).trans (by rw [hrow])) r hr j)
  pointwise [got, sent]
  rfl

/-- and the result: all sixteen shares of its own rows. -/
theorem result_apply (c : Dev nD) (r : Fin 128) (hr : 128 * c.val + r.val < 512) (j : Fin 512) :
    result m ρ c (ix2 r j) = model x e w ⟨128 * c.val + r.val, hr⟩ j := by
  rw [model_by_device, ← sum_around _ c]
  show partOwn m ρ c (ix2 r j) + got m ρ c 0 (ix2 r j) + got m ρ c 1 (ix2 r j) + got m ρ c 2 (ix2 r j) = _
  rw [got_apply m ρ x e w hx he hw c 0 r hr j, got_apply m ρ x e w hx he hw c 1 r hr j, got_apply m ρ x e w hx he hw c 2 r hr j]
  rw [show partOwn m ρ c (ix2 r j) = _ from part_share m ρ x e w hx he hw c _ _ (k0_off3_inb c) (k0_off4_inb c) (k0_off4_inb c) (128 * c.val) (k0_off3_eq c) (k0_off4_eq c) r hr j]

end Parts

end Cert.Dispatch

end
-- ==== Proof.Reference.lean ====
/-
The reference's result at an index: the running sum down the tokens counts the tokens so far of each expert, the sum over
experts keeps the token's own expert's count, and the gather reads that expert's matrix; so its result is the model's.
-/
module

public import proofs.«01_k».proof.Proof.Gen.ReferenceIdeal.Run
public import proofs.«01_k».proof.Proof.Model
public import Mathlib.Data.BitVec

@[expose] public section

noncomputable section

namespace Cert.Dispatch.Ref

open Cert.ReferenceIdeal Cert.ReferenceIdeal.Gen
open Idealize.ShloMosaic
open Idealize.ShloMosaic.TcCoe
open Idealize.ShloMosaic.StableHlo.Predicate

/-! ## The result, in steps -/

/-- The experts as a vector; -/
def experts (e : IVec S512x1 32) : IVec S512 32 := shapeCast _ e shapeCasts_S512x1_S512
/-- which expert each token chose, as zeros and ones; -/
def chosen (e : IVec S512x1 32) : IVec S512x16 32 :=
  extui 32 (cmpi .eq (broadcastInDim S512x16 ![0, 1] bcast_S512x1_S512x16_0_1 (broadcastInDim S512x1 ![0] bcast_S512_S512x1_0 (experts e)))
    (broadcastInDim S512x16 ![0, 1] bcast_S1x16_S512x16_0_1 (broadcastInDim S1x16 ![1] bcast_S16_S1x16_1 (iotaInDim S16 32 0)))) natLt_1_32
/-- a running sum down the tokens; -/
def running (v : IVec S512x16 32) : IVec S512x16 32 :=
  Host.reduceWindow IntOp.addi ![512, 1] ![1, 1] ![511, 0] ![0, 0] v (broadcastInDim S_ ![] bcast_S_S_ (constantI S_ 32 0#32))
    reduceWindows_S512x16_S512x16_w512s1p511_0_w1s1p0_0 h_S_
/-- how many earlier tokens chose each token's expert; -/
def count (e : IVec S512x1 32) : IVec S512 32 :=
  Host.reduce IntOp.addi (muli (chosen e) (subi (running (chosen e)) (chosen e))) (constantI S_ 32 0#32) reducesTo_S512x16_S512_d1 h_S_
/-- whether it is kept; -/
def flag (e : IVec S512x1 32) : IVec S512 1 :=
  andi (andi (cmpi .sge (experts e) (broadcastInDim S512 ![] bcast_S_S512 (constantI S_ 32 0#32)))
      (cmpi .slt (experts e) (broadcastInDim S512 ![] bcast_S_S512 (constantI S_ 32 16#32))))
    (cmpi .slt (count e) (broadcastInDim S512 ![] bcast_S_S512 (constantI S_ 32 25#32)))
/-- its expert's weights; -/
def taken (e : IVec S512x1 32) (w : FVec Ideal S16x256x512 .f32) : FVec Ideal S512x256x512 .f32 :=
  Host.gather gather_S16x256x512_S512x1_S512x256x512_12_0_n_n_0_1_1256512 w (broadcastInDim S512x1 ![0] bcast_S512_S512x1_0 (experts e))
/-- the result. -/
def out (x : FVec Ideal S512x256 .f32) (e : IVec S512x1 32) (w : FVec Ideal S16x256x512 .f32) : FVec Ideal S512x512 .f32 :=
  select (broadcastInDim S512x512 ![0, 1] bcast_S512x1_S512x512_0_1 (broadcastInDim S512x1 ![0] bcast_S512_S512x1_0 (flag e)))
    (Host.dotGeneral dot_S512x256_S512x256x512_S512x512_1_1_n_2_0_0 none x (taken e w))
    (broadcastInDim S512x512 ![] bcast_S_S512x512 (id (constant S_ .f32 0x00000000#32)))

/-! ## Each step at an index -/

/-- Entry `(t, j)` is 1 if token `t` chose expert `j`, and 0 if not. -/
theorem chosen_apply (e : IVec S512x1 32) (t : Fin 512) (j : Fin 16) :
    chosen e (ix2 t j) = if e (ix2 t 0) = BitVec.ofNat 32 j.val then 1 else 0 := by
  pointwise [chosen, experts]
  by_cases h : e (ix2 t 0) = BitVec.ofNat 32 j.val
  · rw [if_pos h, cmpi_eq_iff.mpr h]; rfl
  · rw [if_neg h, ValueIdx.eq_zero_of_ne_one fun h' => h (cmpi_eq_iff.mp h')]; rfl

/-- Adding words up in order is their sum. -/
theorem foldl_addi {ι : Type} (l : List ι) (g : ι → BitVec 32) (z : BitVec 32) :
    l.foldl (fun r a => IntOp.addi r (g a)) z = z + (l.map g).sum := by
  induction l generalizing z with
  | nil => simp
  | cons a l ih => rw [List.foldl_cons, ih, List.map_cons, List.sum_cons, ← add_assoc]; rfl

/-- The window is a column of 512: its position `n` is row `n`. -/
theorem column_symm (n : Fin (⟨2, ![512, 1]⟩ : Shape).numel) :
    (⟨2, ![512, 1]⟩ : Shape).rowMajor.symm n = ix2 (n.cast (by decide : (⟨2, ![512, 1]⟩ : Shape).numel = 512)) (0 : Fin 1) :=
  (Equiv.symm_apply_eq _).mpr (Fin.ext (by
    rw [Shape.rowMajor_val_two]
    show n.val = n.val * 1 + 0
    omega))

/-- A sum over a window that ends at `t`, zero before the first token, is the sum over the tokens up to `t`. -/
theorem sum_up_to (f : Fin 512 → BitVec 32) (t : Fin 512) :
    (∑ a : Fin 512, if h : 511 ≤ t.val + a.val then f ⟨t.val + a.val - 511, by omega⟩ else 0) = ∑ s : Fin 512, if s ≤ t then f s else 0 := by
  rw [← Finset.sum_filter]
  refine (Finset.sum_subset (Finset.subset_univ (Finset.univ.filter fun a : Fin 512 => 511 ≤ t.val + a.val)) fun a _ ha =>
    dif_neg fun h => ha (Finset.mem_filter.mpr ⟨Finset.mem_univ a, h⟩)).symm.trans ?_
  refine Finset.sum_bij' (fun a _ => ⟨t.val + a.val - 511, by omega⟩) (fun s hs => ⟨s.val + 511 - t.val, by
      have : s.val ≤ t.val := (Finset.mem_filter.mp hs).2
      omega⟩) (fun a ha => ?_) (fun s hs => ?_) (fun a ha => Fin.ext ?_) (fun s hs => Fin.ext ?_) fun a ha => dif_pos (Finset.mem_filter.mp ha).2
  · exact Finset.mem_filter.mpr ⟨Finset.mem_univ _, by show t.val + a.val - 511 ≤ t.val; omega⟩
  · have : s.val ≤ t.val := (Finset.mem_filter.mp hs).2
    exact Finset.mem_filter.mpr ⟨Finset.mem_univ _, by show 511 ≤ t.val + (s.val + 511 - t.val); omega⟩
  · have : 511 ≤ t.val + a.val := (Finset.mem_filter.mp ha).2
    show t.val + a.val - 511 + 511 - t.val = a.val
    omega
  · have : s.val ≤ t.val := (Finset.mem_filter.mp hs).2
    show t.val + (s.val + 511 - t.val) - 511 = s.val
    omega

/-- The running sum at token `t` is the sum over the tokens up to and including `t`. -/
theorem running_apply (v : IVec S512x16 32) (t : Fin 512) (j : Fin 16) :
    running v (ix2 t j) = ∑ s : Fin 512, if s ≤ t then v (ix2 s j) else 0 := by
  rw [← sum_up_to (fun s => v (ix2 s j)) t]
  unfold running Host.reduceWindow
  dsimp only
  rw [foldl_addi, ← Fin.sum_univ_def]
  refine (zero_add _).trans ?_
  refine Fintype.sum_equiv (finCongr (by decide : (⟨2, ![512, 1]⟩ : Shape).numel = 512)) _ _ fun n => ?_
  have hn : n.val < 512 := (n.cast (by decide : (⟨2, ![512, 1]⟩ : Shape).numel = 512)).isLt
  have h0 : ((⟨2, ![512, 1]⟩ : Shape).rowMajor.symm n 0).val = n.val := by rw [column_symm]; rfl
  have h1 : ((⟨2, ![512, 1]⟩ : Shape).rowMajor.symm n 1).val = 0 := by rw [column_symm]; rfl
  by_cases h : 511 ≤ t.val + (finCongr (by decide : (⟨2, ![512, 1]⟩ : Shape).numel = 512) n).val
  · have h' : 511 ≤ t.val + n.val := h
    rw [dif_pos h]
    refine (dif_pos fun a => ?_).trans (congrArg v (funext fun a => Fin.ext ?_))
    · match a with
      | ⟨0, _⟩ =>
        show 511 ≤ t.val * 1 + ((⟨2, ![512, 1]⟩ : Shape).rowMajor.symm n 0).val ∧ t.val * 1 + ((⟨2, ![512, 1]⟩ : Shape).rowMajor.symm n 0).val - 511 < 512
        omega
      | ⟨1, _⟩ =>
        show 0 ≤ j.val * 1 + ((⟨2, ![512, 1]⟩ : Shape).rowMajor.symm n 1).val ∧ j.val * 1 + ((⟨2, ![512, 1]⟩ : Shape).rowMajor.symm n 1).val - 0 < 16
        omega
    · match a with
      | ⟨0, _⟩ =>
        show t.val * 1 + ((⟨2, ![512, 1]⟩ : Shape).rowMajor.symm n 0).val - 511 = t.val + n.val - 511
        omega
      | ⟨1, _⟩ =>
        show j.val * 1 + ((⟨2, ![512, 1]⟩ : Shape).rowMajor.symm n 1).val - 0 = j.val
        omega
  · rw [dif_neg h]
    refine dif_neg fun hin => h ?_
    have hin' : 511 ≤ t.val * 1 + ((⟨2, ![512, 1]⟩ : Shape).rowMajor.symm n 0).val := (hin 0).1
    show 511 ≤ t.val + n.val
    omega

/-- The count sums, over the experts, the running sum less the token itself where the token chose the expert. -/
theorem count_apply (e : IVec S512x1 32) (t : Fin 512) :
    count e (ix1 t) = ∑ j : Fin 16, chosen e (ix2 t j) * (running (chosen e) (ix2 t j) - chosen e (ix2 t j)) := by
  pointwise [count]
  rfl

/-- The gather's dimensions. -/
abbrev gd : GatherDims S16x256x512 S512x1 S512x256x512 := gather_S16x256x512_S512x1_S512x256x512_12_0_n_n_0_1_1256512

/-- The gather reads token `t`'s number in its list, -/
theorem gd_row (t : Fin 512) (k : Fin 256) (h : Fin 512) (i : Fin gd.startIndexMap.length) : gd.siIdx (ix3 t k h) i = ix2 t 0 := by
  funext b
  match b with
  | ⟨0, _⟩ => rfl
  | ⟨1, _⟩ => exact Subsingleton.elim (α := Fin 1) _ _

/-- and so entry `(t, k, h)` is entry `(k, h)` of the token's expert's matrix. -/
theorem taken_apply (e : IVec S512x1 32) (w : FVec Ideal S16x256x512 .f32) (n : Fin 16) (t : Fin 512) (k : Fin 256) (h : Fin 512)
    (hn : e (ix2 t 0) = BitVec.ofNat 32 n.val) : taken e w (ix3 t k h) = w (ix3 n k h) := by
  unfold taken Host.gather
  have hb : ∀ a, gd.batchCoord (ix3 t k h) a = 0 := fun a => gd.batchCoord_eq_zero _ a List.not_mem_nil
  refine congrArg w (funext fun a => Fin.ext ?_)
  show gd.start (ix3 t k h) _ a + gd.batchCoord (ix3 t k h) a + gd.offCoord (ix3 t k h) a = _
  rw [hb, Nat.add_zero]
  match a with
  | 0 =>
    rw [gd.offCoord_eq_zero _ _ (show (0 : Fin 3) ∉ gd.sKept by decide), Nat.add_zero]
    unfold GatherDims.start
    rw [dif_pos (show (0 : Fin 3) ∈ gd.startIndexMap by decide), gd_row]
    have he : broadcastInDim S512x1 ![0] bcast_S512_S512x1_0 (experts e) (ix2 t 0) = BitVec.ofNat 32 n.val := by
      pointwise [experts]
      exact hn
    rw [he, toInt_ofNat_small _ (by omega)]
    show min ((n.val : Int)).toNat 15 = n.val
    omega
  | 1 =>
    unfold GatherDims.start GatherDims.offCoord
    rw [dif_neg (show (1 : Fin 3) ∉ gd.startIndexMap by decide), dif_pos (show (1 : Fin 3) ∈ gd.sKept by decide), Nat.zero_add]
    rfl
  | 2 =>
    unfold GatherDims.start GatherDims.offCoord
    rw [dif_neg (show (2 : Fin 3) ∉ gd.startIndexMap by decide), dif_pos (show (2 : Fin 3) ∈ gd.sKept by decide), Nat.zero_add]
    rfl

/-! ## The result -/

/-- A word that is at least 0 and below 16, read signed, is an expert. -/
theorem in_range_iff (v : BitVec 32) : IntOp.cmpi .sge v 0#32 = 1#1 ∧ IntOp.cmpi .slt v 16#32 = 1#1 ↔ ∃ n : Fin 16, v = BitVec.ofNat 32 n.val := by
  simp only [IntOp.cmpi, ofBool_eq_one_iff, BitVec.sle, BitVec.slt, decide_eq_true_eq]
  rw [show (0#32).toInt = 0 from rfl, show (16#32).toInt = 16 from rfl]
  constructor
  · rintro ⟨h0, h1⟩
    refine ⟨⟨v.toInt.toNat, by omega⟩, BitVec.eq_of_toInt_eq ?_⟩
    rw [toInt_ofNat_small _ (by show v.toInt.toNat < 2 ^ 31; omega)]
    show v.toInt = (v.toInt.toNat : ℤ)
    omega
  · rintro ⟨n, rfl⟩
    rw [toInt_ofNat_small _ (by omega)]
    omega

/-- A token of expert `n`: the count is one less than its place. -/
theorem count_eq (e : IVec S512x1 32) (n : Fin 16) (t : Fin 512) (hn : e (ix2 t 0) = BitVec.ofNat 32 n.val) :
    count e (ix1 t) = BitVec.ofNat 32 (place e t - 1) := by
  have hc : ∀ j : Fin 16, chosen e (ix2 t j) = if j = n then 1 else 0 := fun j => by
    rw [chosen_apply]
    exact if_congr ⟨fun h => expert_inj (h.symm.trans hn), fun h => h ▸ hn⟩ rfl rfl
  rw [count_apply, Finset.sum_eq_single n (fun j _ hj => by rw [hc, if_neg hj, zero_mul]) (fun h => absurd (Finset.mem_univ n) h),
    hc, if_pos rfl, one_mul, running_apply]
  have hs : ∀ s : Fin 512, (if s ≤ t then chosen e (ix2 s n) else 0) = if e (ix2 t 0) = e (ix2 s 0) ∧ s ≤ t then (1 : BitVec 32) else 0 := fun s => by
    rw [chosen_apply, ← hn, ← ite_and]
    exact if_congr (and_comm.trans (and_congr_left' eq_comm)) rfl rfl
  simp only [hs]
  rw [Finset.sum_boole]
  exact sub_one_ofNat (place e t) (place_pos e t) (by have := place_le e t; omega)

/-- The reference's result at an index is the model's. -/
theorem out_apply (x : FVec Ideal S512x256 .f32) (e : IVec S512x1 32) (w : FVec Ideal S16x256x512 .f32) (t h : Fin 512) :
    out x e w (ix2 t h) = model x e w t h := by
  have hf : flag e (ix1 t) = 1#1 ↔ (∃ n : Fin 16, e (ix2 t 0) = BitVec.ofNat 32 n.val) ∧ IntOp.cmpi .slt (count e (ix1 t)) 25#32 = 1#1 := by
    pointwise [flag, experts]
    rw [and_bit, and_bit, in_range_iff]
  pointwise [out]
  by_cases hn : ∃ n : Fin 16, e (ix2 t 0) = BitVec.ofNat 32 n.val
  · obtain ⟨n, hn⟩ := hn
    rw [model_of_eq x e w n t h hn]
    have hlt : IntOp.cmpi .slt (count e (ix1 t)) 25#32 = 1#1 ↔ place e t ≤ 25 := by
      rw [count_eq e n t hn]
      have := place_pos e t
      have := place_le e t
      exact (slt_ofNat_iff _ 25 (by omega) (by omega)).trans (by omega)
    by_cases hp : place e t ≤ 25
    · rw [if_pos hp, hf.mpr ⟨⟨n, hn⟩, hlt.mpr hp⟩, ValueIdx.select_one]
      exact Finset.sum_congr rfl fun k _ => by rw [taken_apply e w n t k h hn]
    · rw [if_neg hp, ValueIdx.eq_zero_of_ne_one fun h' => hp (hlt.mp (hf.mp h').2), ValueIdx.select_zero]
      exact Ideal.ofBits_zero_f32
  · rw [model_of_ne x e w t h fun n h' => hn ⟨n, h'⟩, ValueIdx.eq_zero_of_ne_one fun h' => hn (hf.mp h').1, ValueIdx.select_zero]
    exact Ideal.ofBits_zero_f32

open Idealize.SL.Sem in
/-- The reference's run, its result named. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v23)
        = out (m ((c.tc : Thread nD τ).loc main_arg0)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := Value.run m ρ

end Cert.Dispatch.Ref

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Chunk
public import proofs.«01_k».proof.Proof.Reference
public import Idealize.ShloMosaic.Lib.Quiescent
public import Idealize.ShloMosaic.Adequacy
public import Idealize.ShloMosaic.Init

@[expose] public section

noncomputable section

namespace Cert.Proof

open Idealize.ShloMosaic Idealize.SL.Sem

/-- The idealized kernel runs, its operands end unchanged and every counter ends at zero. -/
theorem frame_ideal : Cert.quiescent_KernelIdeal (hKernelIdeal := Cert.KernelIdeal.Gen.facts) := fun m ρ _ =>
  (θ_run Cert.KernelIdeal.defs _ _).mono (fun _ h => ⟨fun c => (h.1 c).1, h.2⟩) (Cert.Dispatch.run_args (F := Ideal) m ρ)

/-- The kernel as printed and the idealized one have the same body, -/
theorem bodies_eq : Cert.Kernel.defs₀ (F := Bits) = Cert.KernelIdeal.defs₀ (F := Bits) := by
  refine congrArg Defs.onTc (funext fun l => funext fun a => ?_)
  rcases l with ⟨_ | n, h⟩
  · rfl
  · exact absurd h (by omega)

/-- and so the same table of bodies. -/
theorem defs_eq : Cert.Kernel.defs (F := Bits) = Cert.KernelIdeal.defs (F := Bits) := congrArg (Pipeline.defs Cert.KernelIdeal.pcfgs) bodies_eq

/-- The kernel as printed runs, its operands end unchanged and every counter ends at zero. -/
theorem frame_kernel : Cert.quiescent_Kernel (hKernel := Cert.Kernel.Gen.facts) := fun m ρ _ => by
  rw [defs_eq]
  exact (θ_run Cert.KernelIdeal.defs _ _).mono (fun _ h => ⟨fun c => (h.1 c).1, h.2⟩) (Cert.Dispatch.run_args (F := Bits) m ρ)

/-- The reference runs, its operands end unchanged; it has no counters. -/
theorem frame_reference : Cert.quiescent_ReferenceIdeal (hReferenceIdeal := Cert.ReferenceIdeal.Gen.facts) := fun m ρ _ =>
  (θ_run Cert.ReferenceIdeal.defs _ _).mono (fun _ h => ⟨fun c => (h c).2, sem_eq_zero_of_no_sems rfl _⟩)
    (Cert.ReferenceIdeal.Value.run (F := Ideal) m ρ)

/-- Each device's result is its block of rows of the reference's: both are the model's. -/
theorem result_block (m : (ℓ : Loc Cert.KernelIdeal.nD Cert.KernelIdeal.τ Cert.KernelIdeal.sig) → Buf (Elt Ideal) ℓ)
    (ρ : Dev Cert.KernelIdeal.nD → PrngReg) (x : Cert.Dispatch.Rows) (e : Cert.Dispatch.Experts) (w : Cert.Dispatch.Weights)
    (hx : ∀ c : Dev Cert.KernelIdeal.nD, m ((c.tc : Thread Cert.KernelIdeal.nD Cert.KernelIdeal.τ).loc Cert.KernelIdeal.main_arg0) = x)
    (he : ∀ c : Dev Cert.KernelIdeal.nD, m ((c.tc : Thread Cert.KernelIdeal.nD Cert.KernelIdeal.τ).loc Cert.KernelIdeal.main_arg2) = e)
    (hw : ∀ c : Dev Cert.KernelIdeal.nD, m ((c.tc : Thread Cert.KernelIdeal.nD Cert.KernelIdeal.τ).loc Cert.KernelIdeal.main_arg3)
      = Layout.block ⟨3, ![4, 256, 512]⟩ ⟨3, ![16, 256, 512]⟩ 0 4 c w Cert.Dispatch.tiles_w) (c : Dev Cert.KernelIdeal.nD) :
    (Cert.Dispatch.dats m ρ 0 c).arrAt 3 Cert.KernelIdeal.cfg0.N
      = Layout.block ⟨2, ![128, 512]⟩ ⟨2, ![512, 512]⟩ 0 4 c (Cert.Dispatch.Ref.out x e w) := by
  refine (Cert.Dispatch.final_eq m ρ c).trans (funext fun i => ?_)
  have hr : 128 * c.val + (i 0).val < 512 := by
    have h0 : c.val < 4 := c.isLt
    have h1 : (i 0).val < 128 := (i 0).isLt
    omega
  have hi : i = ix2 (i 0) (i 1) := ValueIdx.eq_ix2 i
  rw [Layout.block_apply]
  refine (congrArg _ hi).trans ((Cert.Dispatch.result_apply m ρ x e w hx he hw c (i 0) hr (i 1)).trans
    ((Cert.Dispatch.Ref.out_apply x e w ⟨128 * c.val + (i 0).val, hr⟩ (i 1)).symm.trans (congrArg _ (funext fun a => Fin.ext ?_))))
  match a with
  | ⟨0, _⟩ =>
    show 128 * c.val + (i 0).val = c.val * 128 + (i 0).val
    omega
  | ⟨1, _⟩ => rfl

/-- The devices' results, laid side by side, are the reference's. -/
theorem value : Cert.algebraic_KernelIdeal_ReferenceIdeal (hKernelIdeal := Cert.KernelIdeal.Gen.facts) (hReferenceIdeal := Cert.ReferenceIdeal.Gen.facts) :=
  fun m g m' g' _ hin => ⟨_,
    (θ_run Cert.KernelIdeal.defs _ _).mono (fun _ h c => ⟨(h.1 c).2.trans (result_block m g _ _ _ (fun c => (hin c).1) (fun c => (hin c).2.2.1)
      (fun c => (hin c).2.2.2) c), (h.1 c).1⟩) (Cert.Dispatch.run_args (F := Ideal) m g),
    (θ_run Cert.ReferenceIdeal.defs _ _).mono (fun _ h => h 0) (Cert.Dispatch.Ref.run m' g')⟩

theorem claim : Cert.Claim := ⟨Cert.Kernel.Gen.facts, Cert.KernelIdeal.Gen.facts, Cert.ReferenceIdeal.Gen.facts,
  frame_kernel, frame_ideal, frame_reference, trivial, value⟩

end Cert.Proof

end
